-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S4x512x512 : Shape := ⟨3, ![4, 512, 512]⟩
abbrev S2x2x16x128x64 : Shape := ⟨5, ![2, 2, 16, 128, 64]⟩
abbrev S4 : Shape := ⟨1, ![4]⟩
abbrev S1x256x512 : Shape := ⟨3, ![1, 256, 512]⟩
abbrev S_ : Shape := ⟨0, ![]⟩
abbrev S1 : Shape := ⟨1, ![1]⟩
abbrev S1x512x512 : Shape := ⟨3, ![1, 512, 512]⟩
abbrev S512x512 : Shape := ⟨2, ![512, 512]⟩
abbrev S1x128x16x64 : Shape := ⟨4, ![1, 128, 16, 64]⟩
abbrev S128x16x64 : Shape := ⟨3, ![128, 16, 64]⟩
abbrev S16x128x64 : Shape := ⟨3, ![16, 128, 64]⟩
abbrev S1x1x16x128x64 : Shape := ⟨5, ![1, 1, 16, 128, 64]⟩
abbrev S128x128 : Shape := ⟨2, ![128, 128]⟩
abbrev S1x128x128 : Shape := ⟨3, ![1, 128, 128]⟩
abbrev S1x128 : Shape := ⟨2, ![1, 128]⟩
abbrev S1x128x1 : Shape := ⟨3, ![1, 128, 1]⟩
abbrev S1x128x512 : Shape := ⟨3, ![1, 128, 512]⟩
abbrev S128x512 : Shape := ⟨2, ![128, 512]⟩
abbrev S128x256 : Shape := ⟨2, ![128, 256]⟩
abbrev S128x4x64 : Shape := ⟨3, ![128, 4, 64]⟩
abbrev S4x128x64 : Shape := ⟨3, ![4, 128, 64]⟩
abbrev S1x1x4x128x64 : Shape := ⟨5, ![1, 1, 4, 128, 64]⟩
abbrev S4x128x128 : Shape := ⟨3, ![4, 128, 128]⟩
abbrev S4x128 : Shape := ⟨2, ![4, 128]⟩
abbrev S4x128x1 : Shape := ⟨3, ![4, 128, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x16x64, .bf16⟩
  | .hbm, ⟨3, _⟩ => ⟨S2x128x16x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x16x64, .bf16⟩
  | .local _ .vmem, ⟨3, _⟩ => ⟨S2x128x16x64, .bf16⟩
  | .local _ .vmem, ⟨4, _⟩ => ⟨S256x512, .bf16⟩
  | .local _ .vmem, ⟨5, _⟩ => ⟨S2x128x512, .f32⟩
  | .local _ .vmem, ⟨6, _⟩ => ⟨S4x512x512, .bf16⟩
  | .local _ .vmem, ⟨7, _⟩ => ⟨S2x2x16x128x64, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : Index := Scalar.indexCast v2
  let c0_5 : Index := 0#32
  let c0_6 : Index := 0#32
  ![v14.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v20 : Index := Scalar.indexCast v2
  let c256 : Index := 256#32
  let c0_9 : Index := 0#32
  ![v20.toNat, 256, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_11 : BitVec 32 := 1#32
  let v25 : BitVec 32 := Scalar.muli v8 c1_i32_11
  let v26 : BitVec 32 := Scalar.addi c0_i32 v25
  v26.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_13 : BitVec 32 := 1#32
  let v27 : BitVec 32 := Scalar.muli v4 c1_i32_13
  let v28 : BitVec 32 := Scalar.addi c0_i32_14 v27
  v28.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_16 : BitVec 32 := 1#32
  let v29 : BitVec 32 := Scalar.muli v6 c1_i32_16
  let v30 : BitVec 32 := Scalar.addi c0_i32_17 v29
  v30.toNat
def k0_off3 (d0 : Dev nD) (c3_i32 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  ![v8.toNat]
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let c0_i32_22 : BitVec 32 := 0#32
  ![v2.toNat, 0, 0]
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v7 : BitVec 32 := Scalar.addi v2 c3_i32
  let c4_i32_3 : BitVec 32 := 4#32
  let v8 : BitVec 32 := Scalar.remsi v7 c4_i32_3
  let c1_i32_19 : BitVec 32 := 1#32
  let v31 : BitVec 32 := Scalar.muli v8 c1_i32_19
  let v32 : BitVec 32 := Scalar.addi c0_i32_20 v31
  v32.toNat
def k0_dev5 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_25 : BitVec 32 := 1#32
  let v41 : BitVec 32 := Scalar.muli v4 c1_i32_25
  let v42 : BitVec 32 := Scalar.addi c0_i32_26 v41
  v42.toNat
def k0_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.addi v2 c2_i32
  let c4_i32_2 : BitVec 32 := 4#32
  let v6 : BitVec 32 := Scalar.remsi v5 c4_i32_2
  let c1_i32_31 : BitVec 32 := 1#32
  let v51 : BitVec 32 := Scalar.muli v6 c1_i32_31
  let v52 : BitVec 32 := Scalar.addi c0_i32_32 v51
  v52.toNat
def k0_off6 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v187 : Index := Scalar.indexCast v2
  let c0_109 : Index := 0#32
  let c0_110 : Index := 0#32
  ![v187.toNat, 0, 0]
def k0_off7 (d0 : Dev nD) : Fin 5 → Nat :=
  let c0_113 : Index := 0#32
  let c0_114 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_112 : BitVec 32 := 4#32
  let v196 : BitVec 32 := Scalar.muli v2 c4_i32_112
  let v197 : Index := Scalar.indexCast v196
  let c0_115 : Index := 0#32
  let c0_116 : Index := 0#32
  ![0, 0, v197.toNat, 0, 0]
def k0_off8 (d0 : Dev nD) : Fin 5 → Nat :=
  let c0_118 : Index := 0#32
  let c1_119 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_117 : BitVec 32 := 4#32
  let v200 : BitVec 32 := Scalar.muli v2 c4_i32_117
  let v201 : Index := Scalar.indexCast v200
  let c0_120 : Index := 0#32
  let c0_121 : Index := 0#32
  ![0, 1, v201.toNat, 0, 0]
def k0_off9 (d0 : Dev nD) : Fin 5 → Nat :=
  let c1_132 : Index := 1#32
  let c0_133 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_131 : BitVec 32 := 4#32
  let v237 : BitVec 32 := Scalar.muli v2 c4_i32_131
  let v238 : Index := Scalar.indexCast v237
  let c0_134 : Index := 0#32
  let c0_135 : Index := 0#32
  ![1, 0, v238.toNat, 0, 0]
def k0_off10 (d0 : Dev nD) : Fin 5 → Nat :=
  let c1_137 : Index := 1#32
  let c1_138 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_136 : BitVec 32 := 4#32
  let v241 : BitVec 32 := Scalar.muli v2 c4_i32_136
  let v242 : Index := Scalar.indexCast v241
  let c0_139 : Index := 0#32
  let c0_140 : Index := 0#32
  ![1, 1, v242.toNat, 0, 0]
def k0_off11 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c0_i32_151 : BitVec 32 := 0#32
  let c0_i32_152 : BitVec 32 := 0#32
  ![v8.toNat, 0, 0]
def k0_off12 (d0 : Dev nD) (c3_i32 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let v282 : Index := Scalar.indexCast v8
  let c0_155 : Index := 0#32
  let c0_156 : Index := 0#32
  ![v282.toNat, 0, 0]
def k0_off13 (d0 : Dev nD) (c3_i32 : BitVec 32) : Fin 5 → Nat :=
  let c0_159 : Index := 0#32
  let c0_160 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c4_i32_158 : BitVec 32 := 4#32
  let v291 : BitVec 32 := Scalar.muli v8 c4_i32_158
  let v292 : Index := Scalar.indexCast v291
  let c0_161 : Index := 0#32
  let c0_162 : Index := 0#32
  ![0, 0, v292.toNat, 0, 0]
def k0_off14 (d0 : Dev nD) (c3_i32 : BitVec 32) : Fin 5 → Nat :=
  let c0_164 : Index := 0#32
  let c1_165 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c4_i32_163 : BitVec 32 := 4#32
  let v295 : BitVec 32 := Scalar.muli v8 c4_i32_163
  let v296 : Index := Scalar.indexCast v295
  let c0_166 : Index := 0#32
  let c0_167 : Index := 0#32
  ![0, 1, v296.toNat, 0, 0]
def k0_off15 (d0 : Dev nD) (c3_i32 : BitVec 32) : Fin 5 → Nat :=
  let c1_178 : Index := 1#32
  let c0_179 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c4_i32_177 : BitVec 32 := 4#32
  let v332 : BitVec 32 := Scalar.muli v8 c4_i32_177
  let v333 : Index := Scalar.indexCast v332
  let c0_180 : Index := 0#32
  let c0_181 : Index := 0#32
  ![1, 0, v333.toNat, 0, 0]
def k0_off16 (d0 : Dev nD) (c3_i32 : BitVec 32) : Fin 5 → Nat :=
  let c1_183 : Index := 1#32
  let c1_184 : Index := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v7 : BitVec 32 := Scalar.addi v2 c3_i32
  let c4_i32_3 : BitVec 32 := 4#32
  let v8 : BitVec 32 := Scalar.remsi v7 c4_i32_3
  let c4_i32_182 : BitVec 32 := 4#32
  let v336 : BitVec 32 := Scalar.muli v8 c4_i32_182
  let v337 : Index := Scalar.indexCast v336
  let c0_185 : Index := 0#32
  let c0_186 : Index := 0#32
  ![1, 1, v337.toNat, 0, 0]
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x16x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x16x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x512 : Shape := ⟨3, ![2, 512, 512]⟩
abbrev S512x1024 : Shape := ⟨2, ![512, 1024]⟩
abbrev S2x128x16x64 : Shape := ⟨4, ![2, 128, 16, 64]⟩
abbrev S1024x512 : Shape := ⟨2, ![1024, 512]⟩
abbrev S2x512x1024 : Shape := ⟨3, ![2, 512, 1024]⟩
abbrev S2x512x16x64 : Shape := ⟨4, ![2, 512, 16, 64]⟩
abbrev S512 : Shape := ⟨1, ![512]⟩
abbrev S_ : Shape := ⟨0, ![]⟩
abbrev S512x1 : Shape := ⟨2, ![512, 1]⟩
abbrev S128 : Shape := ⟨1, ![128]⟩
abbrev S1x128 : Shape := ⟨2, ![1, 128]⟩
abbrev S512x128 : Shape := ⟨2, ![512, 128]⟩
abbrev S2x16x512x128 : Shape := ⟨4, ![2, 16, 512, 128]⟩
abbrev S1x1x512x128 : Shape := ⟨4, ![1, 1, 512, 128]⟩
abbrev S2x16x512 : Shape := ⟨3, ![2, 16, 512]⟩
abbrev S2x16x512x1 : Shape := ⟨4, ![2, 16, 512, 1]⟩
abbrev S1x1x512x1 : Shape := ⟨4, ![1, 1, 512, 1]⟩
abbrev S2x16x64x512 : Shape := ⟨4, ![2, 16, 64, 512]⟩

abbrev nBuf : Space → Nat
  | .hbm => 140
  | .vmem => 0
  | .smem => 0
  | _ => 0

abbrev hbmTy0_0 (i : Nat) : BufTy := match i % 128 with
  | 0 => ⟨S2x512x512, .bf16⟩
  | 1 => ⟨S512x1024, .bf16⟩
  | 2 => ⟨S2x128x16x64, .bf16⟩
  | 3 => ⟨S2x128x16x64, .bf16⟩
  | 4 => ⟨S1024x512, .bf16⟩
  | 5 => ⟨S2x512x1024, .f32⟩
  | 6 => ⟨S2x512x1024, .bf16⟩
  | 7 => ⟨S2x512x16x64, .bf16⟩
  | 8 => ⟨S512, .i32⟩
  | 9 => ⟨S_, .i32⟩
  | 10 => ⟨S_, .i32⟩
  | 11 => ⟨S512, .i32⟩
  | 12 => ⟨S512, .i32⟩
  | 13 => ⟨S512, .i32⟩
  | 14 => ⟨S_, .i32⟩
  | 15 => ⟨S512, .i32⟩
  | 16 => ⟨S512, .i1⟩
  | 17 => ⟨S512, .i32⟩
  | 18 => ⟨S512, .i32⟩
  | 19 => ⟨S_, .i32⟩
  | 20 => ⟨S512, .i32⟩
  | 21 => ⟨S512, .i1⟩
  | 22 => ⟨S512, .i1⟩
  | 23 => ⟨S_, .i32⟩
  | 24 => ⟨S512, .i32⟩
  | 25 => ⟨S512, .i32⟩
  | 26 => ⟨S512, .i32⟩
  | 27 => ⟨S512x1, .i32⟩
  | 28 => ⟨S128, .i32⟩
  | 29 => ⟨S_, .i32⟩
  | 30 => ⟨S_, .i32⟩
  | 31 => ⟨S128, .i32⟩
  | 32 => ⟨S128, .i32⟩
  | 33 => ⟨S128, .i32⟩
  | 34 => ⟨S_, .i32⟩
  | 35 => ⟨S128, .i32⟩
  | 36 => ⟨S128, .i1⟩
  | 37 => ⟨S128, .i32⟩
  | 38 => ⟨S128, .i32⟩
  | 39 => ⟨S_, .i32⟩
  | 40 => ⟨S128, .i32⟩
  | 41 => ⟨S128, .i1⟩
  | 42 => ⟨S128, .i1⟩
  | 43 => ⟨S_, .i32⟩
  | 44 => ⟨S128, .i32⟩
  | 45 => ⟨S128, .i32⟩
  | 46 => ⟨S128, .i32⟩
  | 47 => ⟨S1x128, .i32⟩
  | 48 => ⟨S512x128, .i32⟩
  | 49 => ⟨S512x128, .i32⟩
  | 50 => ⟨S512x128, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x128, .i32⟩
  | 58 => ⟨S1x128, .i32⟩
  | 59 => ⟨S_, .i32⟩
  | 60 => ⟨S1x128, .i32⟩
  | 61 => ⟨S1x128, .i1⟩
  | 62 => ⟨S_, .i32⟩
  | 63 => ⟨S1x128, .i32⟩
  | 64 => ⟨S1x128, .i1⟩
  | 65 => ⟨S_, .i32⟩
  | 66 => ⟨S_, .i1⟩
  | 67 => ⟨S1x128, .i1⟩
  | 68 => ⟨S1x128, .i1⟩
  | 69 => ⟨S1x128, .i1⟩
  | 70 => ⟨S1x128, .i32⟩
  | 71 => ⟨S1x128, .i32⟩
  | 72 => ⟨S1x128, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S512x1, .i32⟩
  | 80 => ⟨S512x1, .i32⟩
  | 81 => ⟨S_, .i32⟩
  | 82 => ⟨S512x1, .i32⟩
  | 83 => ⟨S512x1, .i1⟩
  | 84 => ⟨S_, .i32⟩
  | 85 => ⟨S512x1, .i32⟩
  | 86 => ⟨S512x1, .i1⟩
  | 87 => ⟨S_, .i32⟩
  | 88 => ⟨S_, .i1⟩
  | 89 => ⟨S512x1, .i1⟩
  | 90 => ⟨S512x1, .i1⟩
  | 91 => ⟨S512x1, .i1⟩
  | 92 => ⟨S512x1, .i32⟩
  | 93 => ⟨S512x1, .i32⟩
  | 94 => ⟨S512x1, .i32⟩
  | 95 => ⟨S512x128, .i32⟩
  | 96 => ⟨S512x128, .i32⟩
  | 97 => ⟨S512x128, .i1⟩
  | 98 => ⟨S512x128, .i1⟩
  | 99 => ⟨S2x16x512x128, .f32⟩
  | 100 => ⟨S2x16x512x128, .bf16⟩
  | 101 => ⟨S2x16x512x128, .f32⟩
  | 102 => ⟨S_, .f32⟩
  | 103 => ⟨S2x16x512x128, .f32⟩
  | 104 => ⟨S2x16x512x128, .f32⟩
  | 105 => ⟨S1x1x512x128, .i1⟩
  | 106 => ⟨S_, .f32⟩
  | 107 => ⟨S_, .f32⟩
  | 108 => ⟨S2x16x512x128, .i1⟩
  | 109 => ⟨S2x16x512x128, .f32⟩
  | 110 => ⟨S2x16x512x128, .f32⟩
  | 111 => ⟨S_, .f32⟩
  | 112 => ⟨S2x16x512, .f32⟩
  | 113 => ⟨S2x16x512x1, .f32⟩
  | 114 => ⟨S2x16x512x128, .f32⟩
  | 115 => ⟨S2x16x512x128, .f32⟩
  | 116 => ⟨S2x16x512x128, .f32⟩
  | 117 => ⟨S_, .i1⟩
  | 118 => ⟨S512, .i1⟩
  | 119 => ⟨S1x1x512x1, .i1⟩
  | 120 => ⟨S_, .f32⟩
  | 121 => ⟨S2x16x512, .f32⟩
  | 122 => ⟨S2x16x512x1, .f32⟩
  | 123 => ⟨S_, .f32⟩
  | 124 => ⟨S_, .f32⟩
  | 125 => ⟨S2x16x512x1, .i1⟩
  | 126 => ⟨S2x16x512x1, .f32⟩
  | 127 => ⟨S2x16x512x1, .f32⟩
  | _ => ⟨S2x512x512, .bf16⟩

abbrev hbmTy0_1 (i : Nat) : BufTy := match i % 128 with
  | 0 => ⟨S2x16x512x128, .f32⟩
  | 1 => ⟨S2x16x512x128, .f32⟩
  | 2 => ⟨S1x1x512x1, .i1⟩
  | 3 => ⟨S_, .f32⟩
  | 4 => ⟨S_, .f32⟩
  | 5 => ⟨S2x16x512x128, .i1⟩
  | 6 => ⟨S2x16x512x128, .f32⟩
  | 7 => ⟨S2x16x512x128, .f32⟩
  | 8 => ⟨S2x16x64x512, .f32⟩
  | 9 => ⟨S2x512x16x64, .f32⟩
  | 10 => ⟨S2x512x1024, .f32⟩
  | 11 => ⟨S2x512x512, .f32⟩
  | _ => ⟨S2x512x512, .bf16⟩

abbrev hbmTy (i : Nat) : BufTy := match i / 128 with
  | 0 => hbmTy0_0 i
  | 1 => hbmTy0_1 i
  | _ => ⟨S2x512x512, .bf16⟩

abbrev bufTy : (tb : Table) → Fin (tcTables nBuf tb) → BufTy
  | .hbm, ⟨i, _⟩ => hbmTy i
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩

abbrev nD : Nat := 1
abbrev τ : Topo := Topo.v7x

variable {F : FTy → Type} [FloatOps F]
-- ==== Proof.Protocol.lean ====
/-
# The exchange of the weight blocks between the four devices: cells, schedule, levels

Device `c` keeps its weight block in slot `c` of the array `comb` (four slots of 512 rows) and copies that slot to the
same slot of the three other devices. `pr c r` is the device `r + 1` places after `c` (`r = 0, 1, 2`).

* barrier semaphore of `c`: `c` waits once, for 3. Each other device `p` signals it by 1, and hands over `p`'s slot `c`
  (any contents): the place where `c`'s block is to land on `p`.
* receive semaphore `p` of `c` (`p ≠ c`): `c` waits once, for one slot's credit. The copy started by `p` credits it, and
  hands over `c`'s slot `p` holding `p`'s weight block.
* send semaphore `p` of `c` (`p ≠ c`): `c` waits once, at the end. Its own copy to `p` credits it, and hands back the
  share of `c`'s own slot that the copy was reading.
* send and receive semaphore `c` of `c` are never used.

The duty of a cell is named by the device at the other end. Order on `c`: the three signals, the barrier wait, the three
copies, the three receive waits, the three send waits. Levels: barrier 1, receive 2, everything else 0.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pointwise.Index
public import Idealize.ShloMosaic.Lib.Ring
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The launch state: memory `m`, every counter zero. -/
def s₀ : MemSt nD τ sig (Elt F) := ⟨m, fun _ => 0, ρ⟩

/-! ## The peers -/

set_option backward.proofsInPublic true in
/-- The device `r + 1` places after `c`. -/
def pr (c : Dev nD) (r : Fin 3) : Dev nD := ⟨(c.val + r.val + 1) % 4, Nat.mod_lt _ (by decide)⟩

set_option backward.proofsInPublic true in
/-- The place of `c` as seen from its peer `pr c r`. -/
def bk (r : Fin 3) : Fin 3 := ⟨2 - r.val, by omega⟩

set_option backward.proofsInPublic true in
/-- How many places after `c` the device `p` is, less one. -/
def gap (c p : Dev nD) : Fin 3 := ⟨((p.val + 3 - c.val) % 4) % 3, Nat.mod_lt _ (by decide)⟩

theorem pr_ne (c : Dev nD) (r : Fin 3) : pr c r ≠ c := by revert c r; decide
theorem pr_inj (c : Dev nD) (r r' : Fin 3) (h : pr c r = pr c r') : r = r' := by revert c r r'; decide
theorem pr_bk (c : Dev nD) (r : Fin 3) : pr (pr c r) (bk r) = c := by revert c r; decide
theorem bk_bk (r : Fin 3) : bk (bk r) = r := by revert r; decide
theorem gap_pr (c : Dev nD) (r : Fin 3) : gap c (pr c r) = r := by revert c r; decide
theorem pr_gap (c p : Dev nD) (h : p ≠ c) : pr c (gap c p) = p := by revert c p; decide

theorem dev1_eq (c : Dev nD) : (⟨k0_dev1 c, k0_dev1_lt c⟩ : Dev nD) = pr c 2 := Fin.ext (k0_dev1_eq c)
theorem dev2_eq (c : Dev nD) : (⟨k0_dev2 c, k0_dev2_lt c⟩ : Dev nD) = pr c 0 := Fin.ext (k0_dev2_eq c)
theorem dev3_eq (c : Dev nD) : (⟨k0_dev3 c, k0_dev3_lt c⟩ : Dev nD) = pr c 1 := Fin.ext (k0_dev3_eq c)
theorem dev4_eq (c : Dev nD) : (⟨k0_dev4 c, k0_dev4_lt c⟩ : Dev nD) = pr c 2 := Fin.ext (k0_dev4_eq c)
theorem dev5_eq (c : Dev nD) : (⟨k0_dev5 c, k0_dev5_lt c⟩ : Dev nD) = pr c 0 := Fin.ext (k0_dev5_eq c)
theorem dev6_eq (c : Dev nD) : (⟨k0_dev6 c, k0_dev6_lt c⟩ : Dev nD) = pr c 1 := Fin.ext (k0_dev6_eq c)

/-! ## Slots and cells -/

theorem slot_inb (p : Dev nD) : ∀ a, (![p.val, 0, 0] : Fin 3 → ℕ) a + S1x512x512.size a ≤ S4x512x512.size a := by
  revert p; decide

/-- The rectangle of slot `p`. -/
abbrev slotR (p : Dev nD) : Rect S4x512x512 := Rect.unit (s := S4x512x512) ![p.val, 0, 0] S1x512x512.size (slot_inb p)

abbrev combM : Memref sig .tc .vmem S4x512x512 .bf16 := Memref.whole cc0_scratch0
abbrev kvtM : Memref sig .tc .vmem S2x2x16x128x64 .bf16 := Memref.whole cc0_scratch1

/-- Slot `p` as the copies name it. -/
def slotM (p : Dev nD) : Memref sig .tc .vmem S512x512 .bf16 :=
  (combM.slice (slotR p) (fun _ => rfl)).squeeze S512x512 squeezes_S1x512x512_S512x512

/-- A slot named by any offsets equal to `![p, 0, 0]` is slot `p`. -/
theorem slotM_of (p : Dev nD) (o : Fin 3 → ℕ) (h : ∀ a, o a + S1x512x512.size a ≤ S4x512x512.size a) (e : o = ![p.val, 0, 0]) :
    (combM.slice (Rect.unit (s := S4x512x512) o S1x512x512.size h) (fun _ => rfl)).squeeze S512x512 squeezes_S1x512x512_S512x512
      = slotM p := by
  subst e; rfl

/-- The elements of slot `p`. -/
def slotS (p : Dev nD) : Finset S4x512x512.Idx := (slotR p).set

theorem slotM_set (p : Dev nD) : (slotM p).view.set = slotS p := by
  unfold slotM slotS
  exact (View.set_reshape _ _).trans (View.set_slice_whole _ _)

theorem slot_disjoint (p p' : Dev nD) (h : p ≠ p') : Disjoint (slotS p) (slotS p') :=
  Ring.lead_disjoint (s := S4x512x512) (NB := 4) (0 : Fin 3) 1 (fun p => ![p.val, 0, 0]) S1x512x512.size slot_inb
    (fun b => (Nat.one_mul _).symm) rfl p p' h

theorem slot_cover : Finset.univ.biUnion slotS = Finset.univ :=
  Ring.lead_cover (s := S4x512x512) (NB := 4) (0 : Fin 3) 1 (fun p => ![p.val, 0, 0]) S1x512x512.size slot_inb
    (fun b => (Nat.one_mul _).symm) (by decide) rfl (by decide) rfl

/-- The barrier semaphore. -/
abbrev barS : Sem sig := (SemArray.scalar (sig.barrier 0 rfl) : Sems sig S_).sem

set_option backward.proofsInPublic true in
/-- Send semaphore `p`. -/
def sendQ (p : Fin 4) : DmaSem sig := ⟨6 + p.val, by have := p.isLt; show 6 + p.val < 14; omega⟩
set_option backward.proofsInPublic true in
/-- Receive semaphore `p`. -/
def recvQ (p : Fin 4) : DmaSem sig := ⟨10 + p.val, by have := p.isLt; show 10 + p.val < 14; omega⟩

theorem sem_inb (p : Fin 4) : ∀ a, (![p.val] : Fin 1 → ℕ) a + S1.size a ≤ S4.size a := by revert p; decide

theorem sendQ_lit (p : Fin 4) : (((cc0_scratch2 : DmaSems sig S4).slice (Rect.unit (s := S4) ![p.val] S1.size (sem_inb p))).squeeze S_ squeezes_S1_S_).sem
    = sendQ p := by fin_cases p <;> rfl
theorem recvQ_lit (p : Fin 4) : (((cc0_scratch3 : DmaSems sig S4).slice (Rect.unit (s := S4) ![p.val] S1.size (sem_inb p))).squeeze S_ squeezes_S1_S_).sem
    = recvQ p := by fin_cases p <;> rfl

theorem sendQ_of (p : Fin 4) (o : Fin 1 → ℕ) (h : ∀ a, o a + S1.size a ≤ S4.size a) (e : o = ![p.val]) :
    (((cc0_scratch2 : DmaSems sig S4).slice (Rect.unit (s := S4) o S1.size h)).squeeze S_ squeezes_S1_S_).sem = sendQ p := by
  subst e; exact sendQ_lit p
theorem recvQ_of (p : Fin 4) (o : Fin 1 → ℕ) (h : ∀ a, o a + S1.size a ≤ S4.size a) (e : o = ![p.val]) :
    (((cc0_scratch3 : DmaSems sig S4).slice (Rect.unit (s := S4) o S1.size h)).squeeze S_ squeezes_S1_S_).sem = recvQ p := by
  subst e; exact recvQ_lit p

abbrev barCell (c : Dev nD) : GSem nD τ sig := ((c : Thread nD τ), .reg barS)
abbrev sendCell (c p : Dev nD) : GSem nD τ sig := ((c : Thread nD τ), .dma (sendQ p))
abbrev recvCell (c p : Dev nD) : GSem nD τ sig := ((c : Thread nD τ), .dma (recvQ p))

/-- The kernel's own (scoped) semaphores. -/
abbrev osem : Bool × Fin 4 → SemLoc sig := fun i => if i.1 then .dma (recvQ i.2) else .dma (sendQ i.2)
/-- All the semaphores of the exchange: the barrier, the send ones, the receive ones. -/
abbrev csem : Option (Bool × Fin 4) → SemLoc sig := fun i => match i with
  | none => .reg barS
  | some (false, p) => .dma (sendQ p)
  | some (true, p) => .dma (recvQ p)
abbrev kcell (ck : Dev nD × Option (Bool × Fin 4)) : GSem nD τ sig := ((ck.1 : Thread nD τ), csem ck.2)

/-- One slot's credit. -/
def N : ℕ := (slotM 0).view.dmaCredit
theorem N_pos : 0 < N := View.dmaCredit_pos _ (by decide)
theorem slotM_credit (p : Dev nD) : (slotM p).view.dmaCredit = N := rfl

/-! ## Contents -/

/-- `x`, `Wq`, `K`, `V`, `Wo` as device `c` stages them. -/
def xstg (c : Dev nD) : (cc0_stg0_0 : Ref sig .tc).ty.Contents (Elt F) :=
  (win0_0.blk (0 : Fin 1)).view.read (Elt F) ((s₀ m ρ).mem ((c : Thread nD τ).loc main_arg0))
def wqstg (c : Dev nD) : (cc0_stg1_0 : Ref sig .tc).ty.Contents (Elt F) :=
  (win0_1.blk (0 : Fin 1)).view.read (Elt F) ((s₀ m ρ).mem ((c : Thread nD τ).loc main_arg1))
def kstg (c : Dev nD) : (cc0_stg2_0 : Ref sig .tc).ty.Contents (Elt F) :=
  (win0_2.blk (0 : Fin 1)).view.read (Elt F) ((s₀ m ρ).mem ((c : Thread nD τ).loc main_arg2))
def vstg (c : Dev nD) : (cc0_stg3_0 : Ref sig .tc).ty.Contents (Elt F) :=
  (win0_3.blk (0 : Fin 1)).view.read (Elt F) ((s₀ m ρ).mem ((c : Thread nD τ).loc main_arg3))
def wostg (c : Dev nD) : (cc0_stg4_0 : Ref sig .tc).ty.Contents (Elt F) :=
  (win0_4.blk (0 : Fin 1)).view.read (Elt F) ((s₀ m ρ).mem ((c : Thread nD τ).loc main_arg4))

/-- Rows 0–255 of a weight block are the scaled `Wq` block transposed, rows 256–511 the `Wo` block. -/
def blockAt (wq : Vec F S512x256 .bf16) (wo : Vec F S256x512 .bf16) (i : S4x512x512.Idx) : F .bf16 :=
  if h : (i 1).val < 256 then k0_pay1 wq (ix3 (0 : Fin 1) (⟨(i 1).val, h⟩ : Fin 256) (i 2))
  else k0_pay2 wo (ix3 (0 : Fin 1) (⟨(i 1).val - 256, by have := (i 1).isLt; change (i 1).val < 512 at this; omega⟩ : Fin 256) (i 2))

/-- The array `comb` after the exchange: slot `p` holds device `p`'s weight block; the same on every device. -/
def combAt : S4x512x512.Idx → F .bf16 := fun i =>
  blockAt (wqstg m ρ (i 0)) (wostg m ρ (i 0)) i

/-- Slot `p` of device `c` at a share, holding `f` there. -/
def slotPts (q : PosShare TreeShare) (c p : Dev nD) (f : Buf (Elt F) ((c : Thread nD τ).loc cc0_scratch0)) : sProp 𝕄 :=
  ((c : Thread nD τ).loc cc0_scratch0) ↦[slotS p]{q} f

omit [FloatOps F] in
instance slotPts_storable (q) (c p : Dev nD) (f) : BI.Storable (upEmb : UEmb _ 𝕄) (slotPts (F := F) q c p f) := by
  unfold slotPts; infer_instance

/-- The share of its own slot that a device lends to its copy number `r`. -/
def sh (r : Fin 3) : PosShare TreeShare := match r with
  | 0 => fullShare.left.right
  | 1 => fullShare.right.left
  | 2 => fullShare.right.right

/-! ## The schedule -/

/-- `p`'s signal hands `c` the place of `c`'s block on `p`. -/
def barPay (c p : Dev nD) : sProp 𝕄 := iprop(∃ f, slotPts fullShare p c f)
/-- `p`'s copy hands `c` its slot `p` holding `p`'s block. -/
def recvPay (c p : Dev nD) : sProp 𝕄 := slotPts fullShare c p (combAt m ρ)
/-- `c`'s copy to `p` hands back the share of `c`'s own slot it was reading. -/
def sendPay (c p : Dev nD) : sProp 𝕄 := slotPts (sh (gap c p)) c c (combAt m ρ)

theorem send_ne_bar (p : Fin 4) : (SemLoc.dma (sendQ p) : SemLoc sig) ≠ .reg barS := fun h => by cases h
theorem recv_ne_bar (p : Fin 4) : (SemLoc.dma (recvQ p) : SemLoc sig) ≠ .reg barS := fun h => by cases h
theorem send_ne_recv (p p' : Fin 4) : (SemLoc.dma (sendQ p) : SemLoc sig) ≠ .dma (recvQ p') := by revert p p'; decide
theorem send_inj (p p' : Fin 4) (h : (SemLoc.dma (sendQ p) : SemLoc sig) = .dma (sendQ p')) : p = p' := by revert p p'; decide
theorem recv_inj (p p' : Fin 4) (h : (SemLoc.dma (recvQ p) : SemLoc sig) = .dma (recvQ p')) : p = p' := by revert p p'; decide

/-- One round: the barrier cell of `c` has a duty of one unit for every other device; a send or receive cell `p ≠ c` has the
    one duty `p`, of a slot's credit. -/
def Rd : Rounds.Schedule (GSem nD τ sig) (Fin 4) 𝕄 where
  duties g r := if r = 0 ∧ g.1.2 = .tc then
      Finset.univ.filter fun p : Fin 4 => p ≠ g.1.1 ∧ (g.2 = .reg barS ∨ g.2 = .dma (sendQ p) ∨ g.2 = .dma (recvQ p))
    else ∅
  unitless _ := False
  amount g _ _ := if g.2 = .reg barS then 1 else N
  payload g _ p :=
    if g.2 = .reg barS then barPay g.1.1 p
    else if g.2 = .dma (recvQ p) then recvPay m ρ g.1.1 p
    else if g.2 = .dma (sendQ p) then sendPay m ρ g.1.1 p
    else iprop(emp)
  amount_pos g _ _ _ := by
    by_cases h : g.2 = .reg barS
    · rw [if_pos h]; exact Nat.one_pos
    · rw [if_neg h]; exact N_pos

instance Rd_payload_storable (g : GSem nD τ sig) (r : ℕ) (d : Fin 4) :
    BI.Storable (upEmb : UEmb _ 𝕄) ((Rd (F := F) m ρ).payload g r d) := by
  show BI.Storable upEmb (if g.2 = .reg barS then barPay g.1.1 d else if g.2 = .dma (recvQ d) then recvPay m ρ g.1.1 d
    else if g.2 = .dma (sendQ d) then sendPay m ρ g.1.1 d else iprop(emp))
  unfold barPay recvPay sendPay
  (repeat' split) <;> infer_instance

section Sched
variable (c : Dev nD) (p : Dev nD) (r : Fin 3)

theorem mem_bar (h : p ≠ c) : p ∈ (Rd (F := F) m ρ).duties (barCell c) 0 := by
  dsimp only [Rd]; rw [if_pos ⟨rfl, rfl⟩]; exact Finset.mem_filter.mpr ⟨Finset.mem_univ _, h, .inl rfl⟩
theorem duties_bar : (Rd (F := F) m ρ).duties (barCell c) 0 = Finset.univ.filter fun p => p ≠ c := by
  dsimp only [Rd]; rw [if_pos ⟨rfl, rfl⟩]
  exact Finset.filter_congr fun p _ => ⟨fun h => h.1, fun h => ⟨h, .inl rfl⟩⟩
theorem duties_send (h : p ≠ c) : (Rd (F := F) m ρ).duties (sendCell c p) 0 = {p} := by
  dsimp only [Rd]; rw [if_pos ⟨rfl, rfl⟩]
  ext q; rw [Finset.mem_filter, Finset.mem_singleton]
  refine ⟨fun ⟨_, _, h⟩ => ?_, fun e => ⟨Finset.mem_univ _, e ▸ h, .inr (.inl (e ▸ rfl))⟩⟩
  rcases h with h | h | h
  · exact absurd h (send_ne_bar p)
  · exact (send_inj _ _ h).symm
  · exact absurd h (send_ne_recv _ _)
theorem duties_recv (h : p ≠ c) : (Rd (F := F) m ρ).duties (recvCell c p) 0 = {p} := by
  dsimp only [Rd]; rw [if_pos ⟨rfl, rfl⟩]
  ext q; rw [Finset.mem_filter, Finset.mem_singleton]
  refine ⟨fun ⟨_, _, h⟩ => ?_, fun e => ⟨Finset.mem_univ _, e ▸ h, .inr (.inr (e ▸ rfl))⟩⟩
  rcases h with h | h | h
  · exact absurd h (recv_ne_bar p)
  · exact absurd h.symm (send_ne_recv _ _)
  · exact (recv_inj _ _ h).symm
theorem duties_later (g : GSem nD τ sig) : ∀ r, 0 + 1 ≤ r → (Rd (F := F) m ρ).duties g r = ∅ :=
  fun r hr => by dsimp only [Rd]; rw [if_neg fun h => by omega]
/-- The unused send cell of a device has no duty; -/
theorem duties_send_self : ∀ r, 0 ≤ r → (Rd (F := F) m ρ).duties (sendCell c c) r = ∅ := fun r _ => by
  dsimp only [Rd]; split
  · refine Finset.filter_eq_empty_iff.mpr fun q _ h => ?_
    rcases h.2 with h' | h' | h'
    · exact send_ne_bar c h'
    · exact h.1 (send_inj _ _ h').symm
    · exact send_ne_recv _ _ h'
  · rfl
/-- nor has its unused receive cell. -/
theorem duties_recv_self : ∀ r, 0 ≤ r → (Rd (F := F) m ρ).duties (recvCell c c) r = ∅ := fun r _ => by
  dsimp only [Rd]; split
  · refine Finset.filter_eq_empty_iff.mpr fun q _ h => ?_
    rcases h.2 with h' | h' | h'
    · exact recv_ne_bar c h'
    · exact send_ne_recv _ _ h'.symm
    · exact h.1 (recv_inj _ _ h').symm
  · rfl

theorem amount_bar (d : Fin 4) : (Rd (F := F) m ρ).amount (barCell c) 0 d = 1 := by dsimp only [Rd]; exact if_pos rfl
theorem amount_dma (q : DmaSem sig) (d : Fin 4) : (Rd (F := F) m ρ).amount ((c : Thread nD τ), .dma q) 0 d = N := by
  dsimp only [Rd]; exact if_neg (fun h => by cases h)

theorem expect_bar : (Rd (F := F) m ρ).expect (barCell c) 0 = 3 := by
  unfold Schedule.expect Schedule.amountOf
  rw [duties_bar, Finset.sum_congr rfl fun d _ => amount_bar m ρ c d, Finset.sum_const, smul_eq_mul, Nat.mul_one]
  revert c; decide
theorem expect_send (h : p ≠ c) : (Rd (F := F) m ρ).expect (sendCell c p) 0 = N := by
  unfold Schedule.expect Schedule.amountOf; rw [duties_send m ρ c p h, Finset.sum_singleton, amount_dma]
theorem expect_recv (h : p ≠ c) : (Rd (F := F) m ρ).expect (recvCell c p) 0 = N := by
  unfold Schedule.expect Schedule.amountOf; rw [duties_recv m ρ c p h, Finset.sum_singleton, amount_dma]

theorem payload_bar : (Rd (F := F) m ρ).payload (barCell c) 0 p = barPay c p := by dsimp only [Rd]; rw [if_pos rfl]
theorem payload_send : (Rd (F := F) m ρ).payload (sendCell c p) 0 p = sendPay m ρ c p := by
  dsimp only [Rd]; rw [if_neg (send_ne_bar p), if_neg (send_ne_recv p p), if_pos rfl]
theorem payload_recv : (Rd (F := F) m ρ).payload (recvCell c p) 0 p = recvPay m ρ c p := by
  dsimp only [Rd]; rw [if_neg (recv_ne_bar p), if_pos rfl]

/-- The barrier wait brings the three places where `c`'s block is to land. -/
theorem rest_bar : bigSep ((Rd (F := F) m ρ).duties (barCell c) 0 \ ∅) (fun d => (Rd (F := F) m ρ).payload (barCell c) 0 d)
    = iprop(barPay c (pr c 2) ∗ barPay c (pr c 0) ∗ barPay c (pr c 1)) := by
  rw [Finset.sdiff_empty, duties_bar, bigSep_eq_bigSepL_of_eq [pr c 2, pr c 0, pr c 1] (by revert c; decide) (by revert c; decide),
    bigSepL_cons_cons, bigSepL_cons_cons, bigSepL_singleton, payload_bar, payload_bar, payload_bar]
  rfl
theorem rest_send (h : p ≠ c) : bigSep ((Rd (F := F) m ρ).duties (sendCell c p) 0 \ ∅) (fun d => (Rd (F := F) m ρ).payload (sendCell c p) 0 d)
    = sendPay m ρ c p := by rw [Finset.sdiff_empty, duties_send m ρ c p h, bigSep_singleton, payload_send]
theorem rest_recv (h : p ≠ c) : bigSep ((Rd (F := F) m ρ).duties (recvCell c p) 0 \ ∅) (fun d => (Rd (F := F) m ρ).payload (recvCell c p) 0 d)
    = recvPay m ρ c p := by rw [Finset.sdiff_empty, duties_recv m ρ c p h, bigSep_singleton, payload_recv]

end Sched

/-! ## What a device owes at launch; levels -/

/-- What is still owed before the copies number 1, 0, 2 (they run in the order 2, 0, 1), -/
def O₅ (c : Dev nD) : CellTallies nD τ sig Unit := tallyAt (recvCell (pr c 1) c) () N
def O₄ (c : Dev nD) : CellTallies nD τ sig Unit := O₅ c + tallyAt (recvCell (pr c 0) c) () N
def O₃ (c : Dev nD) : CellTallies nD τ sig Unit := O₄ c + tallyAt (recvCell (pr c 2) c) () N
/-- and before the three signals. -/
def O₂ (c : Dev nD) : CellTallies nD τ sig Unit := O₃ c + tallyAt (barCell (pr c 1)) () 1
def O₁ (c : Dev nD) : CellTallies nD τ sig Unit := O₂ c + tallyAt (barCell (pr c 0)) () 1
def O₀ (c : Dev nD) : CellTallies nD τ sig Unit := O₁ c + tallyAt (barCell (pr c 2)) () 1

def L (g : GSem nD τ sig) : Finset Unit := if g.1.2 = .tc then {()} else ∅
def lv (g : GSem nD τ sig) (_ : Unit) : ℕ := if g.2 = .reg barS then 1 else if ∃ p, g.2 = .dma (recvQ p) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c p : Dev nD) : lv (recvCell c p) () = 2 := by
  unfold lv; rw [if_neg (recv_ne_bar p), if_pos ⟨p, rfl⟩]

theorem O₃_pos {c : Dev nD} {g : GSem nD τ sig} {u : Unit} (h : 0 < O₃ c g u) : ∃ r, g = recvCell (pr c r) c := by
  unfold O₃ O₄ O₅ at h
  simp only [Pi.add_apply, Finsupp.add_apply, tallyAt_apply] at h
  by_contra hn
  simp only [not_exists] at hn
  rw [if_neg (fun h' => hn _ h'.1), if_neg (fun h' => hn _ h'.1), if_neg (fun h' => hn _ h'.1)] at h
  exact Nat.lt_irrefl 0 h

theorem O₀_pos {c : Dev nD} {g : GSem nD τ sig} {u : Unit} (h : 0 < O₀ c g u) :
    (∃ r, g = recvCell (pr c r) c) ∨ ∃ r, g = barCell (pr c r) := by
  by_contra hn
  rw [not_or] at hn
  obtain ⟨h1, h2⟩ := hn
  have h3 : O₃ c g u = 0 := Nat.eq_zero_of_not_pos fun h' => h1 (O₃_pos h')
  unfold O₀ O₁ O₂ at h
  simp only [Pi.add_apply, Finsupp.add_apply, tallyAt_apply] at h
  simp only [not_exists] at h2
  rw [h3, if_neg (fun h' => h2 _ h'.1), if_neg (fun h' => h2 _ h'.1), if_neg (fun h' => h2 _ h'.1)] at h
  exact Nat.lt_irrefl 0 h

omit [FloatOps F] in
/-- A staging semaphore may be waited on before and after the body. -/
theorem mayWait_stage (c : Dev nD) (q : DmaSem sig) (hq : ∀ p, SemLoc.dma q ≠ (.dma (recvQ p) : SemLoc sig)) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨r, rfl⟩ <;> exact Finset.mem_singleton_self _)
      (fun p hp => by
        rw [Finset.mem_singleton.mp hp]; unfold lv
        rw [if_neg (fun h => by cases h), if_neg (fun ⟨p, h⟩ => hq p h)])
      (fun g u hg => by
        rcases O₀_pos hg with ⟨r, rfl⟩ | ⟨r, rfl⟩
        · rw [lv_recv]; decide
        · rw [lv_bar]; decide)
  · rw [MayWait_zero]; iintro -; iempintro

omit [FloatOps F] in
/-- At the barrier wait a device owes receive credits only, which are above its barrier cell. -/
theorem mayWait_bar (c : Dev nD) : (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨r, rfl⟩ := O₃_pos hg; exact Finset.mem_singleton_self _)
    (fun p hp => by rw [Finset.mem_singleton.mp hp]; exact le_of_eq (lv_bar c))
    (fun g u hg => by obtain ⟨r, rfl⟩ := O₃_pos hg; rw [lv_recv]; decide)

end Cert.Exchange

end
-- ==== Proof.Contents.lean ====
/-
# What the arrays hold

The contents of the staging buffers, of `comb` and of the transposed `K` / `V` scratch as the body loads and stores them,
and the result `outAt` as a fold over the four weight blocks, for any float values.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.Sem

variable {F : FTy → Type} [FloatOps F]

/-! ## Reading and writing a rectangle of a whole buffer -/

section Rects
variable {Val : EltTy → Type} (b : Ref sig .tc) (o sz : Fin b.ty.shape.rank → ℕ) (h : ∀ a, o a + sz a ≤ b.ty.shape.size a)

/-- Reading a rectangle of a whole buffer at `j` is reading the buffer at any index placed there. -/
theorem readAt_unit_of (f : b.ty.Contents Val) (j : (Rect.unit (s := b.ty.shape) o sz h).shape.Idx) (i : b.ty.shape.Idx)
    (hi : ∀ a, (i a).val = o a + (j a).val) :
    (Memref.whole b).view.readAt Val (Rect.unit (s := b.ty.shape) o sz h).toLoadRect f j = f i := by
  show f ((Rect.unit (s := b.ty.shape) o sz h).idx j) = f i
  congr 1
  funext a
  exact Fin.ext (by rw [LoadRect.idx_apply, hi a]; show o a + 1 * (j a).val = _; rw [Nat.one_mul])

/-- A rectangle written whole holds, at an index placed there, the value stored; -/
theorem write_unit_of (f : b.ty.Contents Val) (w : (Rect.unit (s := b.ty.shape) o sz h).shape.Idx → Val b.ty.elt)
    (i : b.ty.shape.Idx) (x : (Rect.unit (s := b.ty.shape) o sz h).shape.Idx) (hx : ∀ a, (i a).val = o a + (x a).val) :
    ((Memref.whole b).access (Rect.unit (s := b.ty.shape) o sz h)).write Val f w Finset.univ i = w x := by
  have e : i = ((Memref.whole b).access (Rect.unit (s := b.ty.shape) o sz h)).emb x := by
    funext a
    exact Fin.ext (by rw [hx a]; show _ = o a + 1 * (x a).val; rw [Nat.one_mul])
  rw [e]
  exact View.write_emb_of_mem _ _ (Finset.mem_univ x)

/-- and elsewhere what it held. -/
theorem write_unit_not (f : b.ty.Contents Val) (w : (Rect.unit (s := b.ty.shape) o sz h).shape.Idx → Val b.ty.elt)
    (i : b.ty.shape.Idx) (a) (ha : (i a).val < o a ∨ o a + sz a ≤ (i a).val) :
    ((Memref.whole b).access (Rect.unit (s := b.ty.shape) o sz h)).write Val f w Finset.univ i = f i := by
  refine View.write_of_not_mem _ _ _ fun hm => ?_
  have hm' : i ∈ (Rect.unit (s := b.ty.shape) o sz h).set := by
    have := View.set_slice_whole b (Rect.unit (s := b.ty.shape) o sz h)
    rw [← this]; exact hm
  have := (Rect.mem_set_unit.mp hm') a
  omega

end Rects

variable (m : (ℓ : Loc nD τ sig) → Buf (Elt F) ℓ) (ρ : Dev nD → PrngReg)

/-! ## `comb` -/

theorem mem_slotS {p : Dev nD} {i : S4x512x512.Idx} : i ∈ slotS p ↔ i 0 = p := by
  unfold slotS
  rw [Rect.mem_set_unit]
  constructor
  · intro h; have h0 := h 0; exact Fin.ext (by simp at h0; omega)
  · rintro rfl a
    have := (i a).isLt
    fin_cases a <;> simp at this ⊢ <;> omega

/-- The two stores of a device's weight block leave its own slot as the exchange wants it. -/
theorem comb_stored (c : Dev nD) (f : (cc0_scratch0 : Ref sig .tc).ty.Contents (Elt F))
    (o₁ o₂ : Fin 3 → ℕ) (h₁ : ∀ a, o₁ a + S1x256x512.size a ≤ S4x512x512.size a) (h₂ : ∀ a, o₂ a + S1x256x512.size a ≤ S4x512x512.size a)
    (e₁ : o₁ = ![c.val, 0, 0]) (e₂ : o₂ = ![c.val, 256, 0]) (i : S4x512x512.Idx) (hi : i ∈ slotS c) :
    (combM.access (Rect.unit (s := S4x512x512) o₂ S1x256x512.size h₂)).write (Elt F)
      ((combM.access (Rect.unit (s := S4x512x512) o₁ S1x256x512.size h₁)).write (Elt F) f (k0_pay1 (wqstg m ρ c)) Finset.univ)
      (k0_pay2 (wostg m ρ c)) Finset.univ i = combAt m ρ i := by
  subst e₁ e₂
  have h0 : i 0 = c := mem_slotS.mp hi
  have hc : (i 0).val = c.val := congrArg Fin.val h0
  have hb : (i 1).val < 512 := (i 1).isLt
  unfold combAt blockAt
  rw [h0]
  by_cases hlt : (i 1).val < 256
  · rw [dif_pos hlt]
    refine (write_unit_not cc0_scratch0 _ _ h₂ _ _ i (1 : Fin 3) (.inl hlt)).trans ?_
    refine write_unit_of cc0_scratch0 _ _ h₁ _ _ i (ix3 (0 : Fin 1) (⟨(i 1).val, hlt⟩ : Fin 256) (i 2)) fun a => ?_
    fin_cases a
    · exact hc
    · exact (Nat.zero_add _).symm
    · exact (Nat.zero_add _).symm
  · rw [dif_neg hlt]
    refine write_unit_of cc0_scratch0 _ _ h₂ _ _ i (ix3 (0 : Fin 1) (⟨(i 1).val - 256, by omega⟩ : Fin 256) (i 2)) fun a => ?_
    fin_cases a
    · exact hc
    · show (i 1).val = 256 + ((i 1).val - 256); omega
    · exact (Nat.zero_add _).symm

/-- A landing copy of a slot leaves the same slot of the receiver at the sender's contents. -/
theorem comb_landed (p : Dev nD) (fd g : (cc0_scratch0 : Ref sig .tc).ty.Contents (Elt F)) (i : S4x512x512.Idx) (hi : i ∈ slotS p) :
    (slotM p).view.write (Elt F) fd ((slotM p).view.read (Elt F) g) Finset.univ i = g i := by
  have hm : i ∈ (slotM p).view.setOn Finset.univ := by rw [View.setOn_univ, slotM_set]; exact hi
  refine (congrFun (View.write_read_eq_piecewise (v := (slotM p).view) fd g Finset.univ) i).trans ?_
  exact Finset.piecewise_eq_of_mem _ _ _ hm

/-- Slot `p` as the body loads it. -/
def slab (p : Dev nD) : Vec F S1x512x512 .bf16 := fun j => combAt m ρ (ix3 p (j 1) (j 2))

theorem read_slab (p : Dev nD) (o : Fin 3 → ℕ) (h : ∀ a, o a + S1x512x512.size a ≤ S4x512x512.size a) (e : o = ![p.val, 0, 0]) :
    combM.view.readAt (Elt F) (Rect.unit (s := S4x512x512) o S1x512x512.size h).toLoadRect (combAt m ρ) = slab m ρ p := by
  subst e
  refine funext fun (j : S1x512x512.Idx) => ?_
  have h0 : (j 0).val = 0 := by have := (j 0).isLt; change (j 0).val < 1 at this; omega
  refine readAt_unit_of (Val := Elt F) cc0_scratch0 _ _ h (combAt m ρ) j (ix3 p (j 1) (j 2)) fun a => ?_
  fin_cases a
  · show p.val = p.val + (j 0).val; omega
  · exact (Nat.zero_add _).symm
  · exact (Nat.zero_add _).symm

/-- A load or store at a rectangle inside slot `p` touches elements of slot `p` only. -/
theorem load_slot (p : Dev nD) (o sz : Fin 3 → ℕ) (h : ∀ a, o a + sz a ≤ S4x512x512.size a) (e : o 0 = p.val) (e' : sz 0 = 1) :
    combM.view.setOn (Rect.unit (s := S4x512x512) o sz h).toLoadRect.set ⊆ slotS p := by
  intro i hi
  have hm' : i ∈ (Rect.unit (s := S4x512x512) o sz h).set := by
    obtain ⟨x, hx, rfl⟩ := Finset.mem_map.mp hi
    exact hx
  have := (Rect.mem_set_unit.mp hm') 0
  exact mem_slotS.mpr (Fin.ext (by omega))
theorem store_slot (p : Dev nD) (o sz : Fin 3 → ℕ) (h : ∀ a, o a + sz a ≤ S4x512x512.size a) (e : o 0 = p.val) (e' : sz 0 = 1)
    (Mk : Finset (Rect.unit (s := S4x512x512) o sz h).shape.Idx) :
    (combM.access (Rect.unit (s := S4x512x512) o sz h)).setOn Mk ⊆ slotS p := by
  refine (View.setOn_subset_set _ _).trans fun i hi => ?_
  have hm' : i ∈ (Rect.unit (s := S4x512x512) o sz h).set := by
    have := View.set_slice_whole cc0_scratch0 (Rect.unit (s := S4x512x512) o sz h)
    rw [← this]; exact hi
  have := (Rect.mem_set_unit.mp hm') 0
  exact mem_slotS.mpr (Fin.ext (by omega))

/-! ## The inputs -/

/-- Batch `b` of `x`, of `K` / `V`. -/
def xrow (X : Vec F S2x128x512 .bf16) (b : Fin 2) : Vec F S1x128x512 .bf16 := fun j => X (ix3 b (j 1) (j 2))
def kvrow (X : Vec F S2x128x16x64 .bf16) (b : Fin 2) : Vec F S1x128x16x64 .bf16 := fun j => X (ix4 b (j 1) (j 2) (j 3))

theorem read_x (X : (cc0_stg0_0 : Ref sig .tc).ty.Contents (Elt F)) (b : Fin 2) (h : ∀ a, (![b.val, 0, 0] : Fin 3 → ℕ) a + S1x128x512.size a ≤ S2x128x512.size a) :
    (Memref.whole cc0_stg0_0).view.readAt (Elt F) (Rect.unit (s := S2x128x512) ![b.val, 0, 0] S1x128x512.size h).toLoadRect X = xrow X b := by
  refine funext fun (j : S1x128x512.Idx) => ?_
  have h0 : (j 0).val = 0 := by have := (j 0).isLt; change (j 0).val < 1 at this; omega
  refine readAt_unit_of cc0_stg0_0 _ _ h X j (ix3 b (j 1) (j 2)) fun a => ?_
  fin_cases a
  · show b.val = b.val + (j 0).val; omega
  · exact (Nat.zero_add _).symm
  · exact (Nat.zero_add _).symm

theorem read_k (X : (cc0_stg2_0 : Ref sig .tc).ty.Contents (Elt F)) (b : Fin 2) (h : ∀ a, (![b.val, 0, 0, 0] : Fin 4 → ℕ) a + S1x128x16x64.size a ≤ S2x128x16x64.size a) :
    (Memref.whole cc0_stg2_0).view.readAt (Elt F) (Rect.unit (s := S2x128x16x64) ![b.val, 0, 0, 0] S1x128x16x64.size h).toLoadRect X = kvrow X b := by
  refine funext fun (j : S1x128x16x64.Idx) => ?_
  have h0 : (j 0).val = 0 := by have := (j 0).isLt; change (j 0).val < 1 at this; omega
  refine readAt_unit_of cc0_stg2_0 _ _ h X j (ix4 b (j 1) (j 2) (j 3)) fun a => ?_
  fin_cases a
  · show b.val = b.val + (j 0).val; omega
  · exact (Nat.zero_add _).symm
  · exact (Nat.zero_add _).symm
  · exact (Nat.zero_add _).symm

theorem read_v (X : (cc0_stg3_0 : Ref sig .tc).ty.Contents (Elt F)) (b : Fin 2) (h : ∀ a, (![b.val, 0, 0, 0] : Fin 4 → ℕ) a + S1x128x16x64.size a ≤ S2x128x16x64.size a) :
    (Memref.whole cc0_stg3_0).view.readAt (Elt F) (Rect.unit (s := S2x128x16x64) ![b.val, 0, 0, 0] S1x128x16x64.size h).toLoadRect X = kvrow X b := by
  refine funext fun (j : S1x128x16x64.Idx) => ?_
  have h0 : (j 0).val = 0 := by have := (j 0).isLt; change (j 0).val < 1 at this; omega
  refine readAt_unit_of cc0_stg3_0 _ _ h X j (ix4 b (j 1) (j 2) (j 3)) fun a => ?_
  fin_cases a
  · show b.val = b.val + (j 0).val; omega
  · exact (Nat.zero_add _).symm
  · exact (Nat.zero_add _).symm
  · exact (Nat.zero_add _).symm

/-! ## The transposed `K` and `V` -/

/-- The scratch after its four stores: `K` (plane 0) and `V` (plane 1) of each batch, heads first. -/
def kvtAt (c : Dev nD) : S2x2x16x128x64.Idx → F .bf16 := fun i =>
  if (i 1).val = 0 then k0_pay3 (kvrow (kstg m ρ c) (i 0)) (ix5 (0 : Fin 1) (0 : Fin 1) (i 2) (i 3) (i 4))
  else k0_pay3 (kvrow (vstg m ρ c) (i 0)) (ix5 (0 : Fin 1) (0 : Fin 1) (i 2) (i 3) (i 4))

theorem kvtAt_k (c : Dev nD) (i : S2x2x16x128x64.Idx) (h : i 1 = (0 : Fin 2)) :
    kvtAt m ρ c i = k0_pay3 (kvrow (kstg m ρ c) (i 0)) (ix5 (0 : Fin 1) (0 : Fin 1) (i 2) (i 3) (i 4)) := if_pos (congrArg Fin.val h)
theorem kvtAt_v (c : Dev nD) (i : S2x2x16x128x64.Idx) (h : i 1 = (1 : Fin 2)) :
    kvtAt m ρ c i = k0_pay3 (kvrow (vstg m ρ c) (i 0)) (ix5 (0 : Fin 1) (0 : Fin 1) (i 2) (i 3) (i 4)) :=
  if_neg (by rw [h]; decide)

theorem kvt_in (f : (cc0_scratch1 : Ref sig .tc).ty.Contents (Elt F)) (w : Vec F S1x1x16x128x64 .bf16) (a b : Fin 2) (o : Fin 5 → ℕ)
    (h : ∀ t, o t + S1x1x16x128x64.size t ≤ S2x2x16x128x64.size t) (e : o = ![a.val, b.val, 0, 0, 0]) (i : S2x2x16x128x64.Idx)
    (ha : i 0 = a) (hb : i 1 = b) :
    (kvtM.access (Rect.unit (s := S2x2x16x128x64) o S1x1x16x128x64.size h)).write (Elt F) f w Finset.univ i
      = w (ix5 (0 : Fin 1) (0 : Fin 1) (i 2) (i 3) (i 4)) := by
  subst e
  refine write_unit_of cc0_scratch1 _ _ h f w i (ix5 (0 : Fin 1) (0 : Fin 1) (i 2) (i 3) (i 4)) fun t => ?_
  fin_cases t
  · exact congrArg Fin.val ha
  · exact congrArg Fin.val hb
  · exact (Nat.zero_add _).symm
  · exact (Nat.zero_add _).symm
  · exact (Nat.zero_add _).symm

theorem kvt_out (f : (cc0_scratch1 : Ref sig .tc).ty.Contents (Elt F)) (w : Vec F S1x1x16x128x64 .bf16) (a b : Fin 2) (o : Fin 5 → ℕ)
    (h : ∀ t, o t + S1x1x16x128x64.size t ≤ S2x2x16x128x64.size t) (e : o = ![a.val, b.val, 0, 0, 0]) (i : S2x2x16x128x64.Idx)
    (hn : i 0 ≠ a ∨ i 1 ≠ b) :
    (kvtM.access (Rect.unit (s := S2x2x16x128x64) o S1x1x16x128x64.size h)).write (Elt F) f w Finset.univ i = f i := by
  subst e
  rcases hn with hn | hn
  · refine write_unit_not cc0_scratch1 _ _ h f w i (0 : Fin 5) ?_
    have : (i 0).val ≠ a.val := fun h => hn (Fin.ext h)
    show (i 0).val < a.val ∨ a.val + 1 ≤ (i 0).val
    omega
  · refine write_unit_not cc0_scratch1 _ _ h f w i (1 : Fin 5) ?_
    have : (i 1).val ≠ b.val := fun h => hn (Fin.ext h)
    show (i 1).val < b.val ∨ b.val + 1 ≤ (i 1).val
    omega

theorem kvt_stored (c : Dev nD) (f : (cc0_scratch1 : Ref sig .tc).ty.Contents (Elt F))
    (o₀ o₁ o₂ o₃ : Fin 5 → ℕ) (h₀ : ∀ t, o₀ t + S1x1x16x128x64.size t ≤ S2x2x16x128x64.size t) (h₁ : ∀ t, o₁ t + S1x1x16x128x64.size t ≤ S2x2x16x128x64.size t)
    (h₂ : ∀ t, o₂ t + S1x1x16x128x64.size t ≤ S2x2x16x128x64.size t) (h₃ : ∀ t, o₃ t + S1x1x16x128x64.size t ≤ S2x2x16x128x64.size t)
    (e₀ : o₀ = ![0, 0, 0, 0, 0]) (e₁ : o₁ = ![0, 1, 0, 0, 0]) (e₂ : o₂ = ![1, 0, 0, 0, 0]) (e₃ : o₃ = ![1, 1, 0, 0, 0]) :
    (kvtM.access (Rect.unit (s := S2x2x16x128x64) o₃ S1x1x16x128x64.size h₃)).write (Elt F)
      ((kvtM.access (Rect.unit (s := S2x2x16x128x64) o₂ S1x1x16x128x64.size h₂)).write (Elt F)
        ((kvtM.access (Rect.unit (s := S2x2x16x128x64) o₁ S1x1x16x128x64.size h₁)).write (Elt F)
          ((kvtM.access (Rect.unit (s := S2x2x16x128x64) o₀ S1x1x16x128x64.size h₀)).write (Elt F) f
            (k0_pay3 (kvrow (kstg m ρ c) 0)) Finset.univ)
          (k0_pay4 (kvrow (vstg m ρ c) 0)) Finset.univ)
        (k0_pay5 (kvrow (kstg m ρ c) 1)) Finset.univ)
      (k0_pay6 (kvrow (vstg m ρ c) 1)) Finset.univ = kvtAt m ρ c := by
  have h01 : (0 : Fin 2) ≠ 1 := by decide
  have h10 : (1 : Fin 2) ≠ 0 := by decide
  refine funext fun (i : S2x2x16x128x64.Idx) => ?_
  have hcase : ∀ t : Fin 2, t = 0 ∨ t = 1 := by decide
  rcases hcase (i 0) with ha | ha <;> rcases hcase (i 1) with hb | hb
  · refine (kvt_out _ _ 1 1 _ h₃ e₃ i (.inl (ha ▸ h01))).trans ((kvt_out _ _ 1 0 _ h₂ e₂ i (.inl (ha ▸ h01))).trans
      ((kvt_out _ _ 0 1 _ h₁ e₁ i (.inr (hb ▸ h01))).trans ((kvt_in _ _ 0 0 _ h₀ e₀ i ha hb).trans ?_)))
    rw [kvtAt_k m ρ c i hb, ha]
  · refine (kvt_out _ _ 1 1 _ h₃ e₃ i (.inl (ha ▸ h01))).trans ((kvt_out _ _ 1 0 _ h₂ e₂ i (.inl (ha ▸ h01))).trans
      ((kvt_in _ _ 0 1 _ h₁ e₁ i ha hb).trans ?_))
    rw [kvtAt_v m ρ c i hb, ha]; rfl
  · refine (kvt_out _ _ 1 1 _ h₃ e₃ i (.inr (hb ▸ h01))).trans ((kvt_in _ _ 1 0 _ h₂ e₂ i ha hb).trans ?_)
    rw [kvtAt_k m ρ c i hb, ha]; rfl
  · refine (kvt_in _ _ 1 1 _ h₃ e₃ i ha hb).trans ?_
    rw [kvtAt_v m ρ c i hb, ha]; rfl

/-- The four heads of chunk `p` in plane `kv` (0 for `K`, 1 for `V`) of batch `b`, as the body loads them. -/
def heads (c : Dev nD) (b kv : Fin 2) (p : Dev nD) : Vec F S1x1x4x128x64 .bf16 := fun j =>
  kvtAt m ρ c (ix5 b kv (⟨4 * p.val + (j 2).val, by have := (j 2).isLt; change (j 2).val < 4 at this; have := p.isLt; change p.val < 4 at this; omega⟩ : Fin 16) (j 3) (j 4))

theorem read_heads (c : Dev nD) (b kv : Fin 2) (p : Dev nD) (o : Fin 5 → ℕ) (h : ∀ a, o a + S1x1x4x128x64.size a ≤ S2x2x16x128x64.size a)
    (e : o = ![b.val, kv.val, 4 * p.val, 0, 0]) :
    kvtM.view.readAt (Elt F) (Rect.unit (s := S2x2x16x128x64) o S1x1x4x128x64.size h).toLoadRect (kvtAt m ρ c) = heads m ρ c b kv p := by
  subst e
  refine funext fun (j : S1x1x4x128x64.Idx) => ?_
  have h0 : (j 0).val = 0 := by have := (j 0).isLt; change (j 0).val < 1 at this; omega
  have h1 : (j 1).val = 0 := by have := (j 1).isLt; change (j 1).val < 1 at this; omega
  refine readAt_unit_of (Val := Elt F) cc0_scratch1 _ _ h (kvtAt m ρ c) j (ix5 b kv _ (j 3) (j 4)) fun a => ?_
  fin_cases a
  · show b.val = b.val + (j 0).val; omega
  · show kv.val = kv.val + (j 1).val; omega
  · rfl
  · exact (Nat.zero_add _).symm
  · exact (Nat.zero_add _).symm

/-! ## The result -/

/-- Device `c`'s number in the mesh as the body computes it, -/
abbrev dword (c : Dev nD) : BitVec 32 := Scalar.remsi (Scalar.divsi (Dev.word c) 1#32) 4#32
/-- its mask (row `i`, column `j`), -/
abbrev maskAt (c : Dev nD) : IVec S1x128x128 1 :=
  k0_pay11 (iota .tc S128x128 32 [1] iota_S128x128_d1_w32) (k0_pay7 (dword c)) k0_pay8 k0_pay9 k0_pay10
/-- and the rows whose mask is not empty. -/
abbrev keepAt (c : Dev nD) : IVec S1x128x1 1 :=
  k0_pay13 (F := F) (maskAt c) (Scalar.ofBits .f32 0x00000000#32) (k0_pay12 (F := F))

/-- One weight block folded into the running result: queries from `x` and the block's upper half, masked attention over the
    chunk's four heads, and the product with the block's lower half added to `acc`. -/
def fold (M : IVec S1x128x128 1) (R : IVec S1x128x1 1) (x : FVec F S128x512 .bf16) (acc : FVec F S128x512 .f32)
    (w : Vec F S1x512x512 .bf16) (k v : Vec F S1x1x4x128x64 .bf16) : FVec F S128x512 .f32 :=
  k0_pay31 M R acc (k0_pay20 w) (k0_pay32 x (k0_pay19 w)) k v

/-- `fold` at device `c`, batch `b`, chunk `p`. -/
def step (c : Dev nD) (b : Fin 2) (p : Dev nD) (acc : FVec F S128x512 .f32) : FVec F S128x512 .f32 :=
  fold (maskAt c) (keepAt (F := F) c) (k0_pay14 (xrow (xstg m ρ c) b)) acc (slab m ρ p) (heads m ρ c b 0 p) (heads m ρ c b 1 p)

/-- The four chunks in the order the body takes them: its own, then those 3, 1 and 2 places on. -/
def accAt (c : Dev nD) (b : Fin 2) : FVec F S128x512 .f32 :=
  step m ρ c b (pr c 1) (step m ρ c b (pr c 0) (step m ρ c b (pr c 2) (step m ρ c b c (k0_pay16 (F := F)))))

/-- The result's staging buffer after the body. -/
def outAt (c : Dev nD) : (cc0_stg5_0 : Ref sig .tc).ty.Contents (Elt F) := fun i : S2x128x512.Idx =>
  k0_pay51 (accAt m ρ c (i 0)) (ix3 (0 : Fin 1) (i 1) (i 2))

theorem out_stored (c : Dev nD) (f : (cc0_stg5_0 : Ref sig .tc).ty.Contents (Elt F))
    (h₀ : ∀ a, (![0, 0, 0] : Fin 3 → ℕ) a + S1x128x512.size a ≤ S2x128x512.size a) (h₁ : ∀ a, (![1, 0, 0] : Fin 3 → ℕ) a + S1x128x512.size a ≤ S2x128x512.size a) :
    ((Memref.whole cc0_stg5_0).access (Rect.unit (s := S2x128x512) ![1, 0, 0] S1x128x512.size h₁)).write (Elt F)
      (((Memref.whole cc0_stg5_0).access (Rect.unit (s := S2x128x512) ![0, 0, 0] S1x128x512.size h₀)).write (Elt F) f
        (k0_pay51 (accAt m ρ c 0)) Finset.univ)
      (k0_pay51 (accAt m ρ c 1)) Finset.univ = outAt m ρ c := by
  refine funext fun (i : S2x128x512.Idx) => ?_
  have hcase : ∀ t : Fin 2, t = 0 ∨ t = 1 := by decide
  have hz (t : Fin 2) : ∀ a : Fin 3, (i 0 = t) → (i a).val = (![t.val, 0, 0] : Fin 3 → ℕ) a + ((ix3 (0 : Fin 1) (i 1) (i 2) : S1x128x512.Idx) a).val := by
    intro a ht
    fin_cases a
    · exact congrArg Fin.val ht
    · exact (Nat.zero_add _).symm
    · exact (Nat.zero_add _).symm
  unfold outAt
  rcases hcase (i 0) with ha | ha
  · refine (write_unit_not cc0_stg5_0 _ _ h₁ _ _ i (0 : Fin 3) (.inl (by
      show (i 0).val < 1
      rw [ha]; decide))).trans ?_
    refine (write_unit_of cc0_stg5_0 _ _ h₀ f _ i (ix3 (0 : Fin 1) (i 1) (i 2)) fun a => hz 0 a ha).trans ?_
    rw [ha]
  · refine (write_unit_of cc0_stg5_0 _ _ h₁ _ _ i (ix3 (0 : Fin 1) (i 1) (i 2)) fun a => hz 1 a ha).trans ?_
    rw [ha]

end Cert.Exchange

end
-- ==== Proof.Steps.lean ====
/-
# One lemma per kind of step

Each step of the body that touches a semaphore or an array, at a symbolic device `c`: the operands are any terms equal to
the ones the exchange names, so that a step of the printed body is taken as it stands.
-/
module

public import proofs.«01_k».proof.Proof.Contents

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

/-! ## The shared records -/

abbrev Cells : Type := Dev nD × Option (Bool × Fin 4)

/-- The invariants of all the cells, and that round 0 of each is reached. -/
def records (K : Cells → ℕ) : sProp 𝕄 :=
  iprop((bigSep Finset.univ fun ck : Cells => cellInv ER (Rd m ρ) (K ck) (kcell ck))
    ∗ bigSep Finset.univ fun ck : Cells => reached ER (kcell ck) 0)

instance records_persistent (K : Cells → ℕ) : BI.Persistent (records m ρ K) := by unfold records; infer_instance

theorem inv_at (K : Cells → ℕ) (ck : Cells) :
    (bigSep Finset.univ fun ck : Cells => (cellInv ER (Rd m ρ) (K ck) (kcell ck) : sProp 𝕄)) ⊢ cellInv ER (Rd m ρ) (K ck) (kcell ck) :=
  bigSep_elim (Finset.mem_univ ck)
omit [FloatOps F] in
theorem reached_at (ck : Cells) :
    (bigSep Finset.univ fun ck : Cells => (reached ER (kcell ck) 0 : sProp 𝕄)) ⊢ reached ER (kcell ck) 0 :=
  bigSep_elim (Finset.mem_univ ck)

theorem inv_of (K : Cells → ℕ) (ck : Cells) : records m ρ K ⊢ cellInv ER (Rd m ρ) (K ck) (kcell ck) := by
  unfold records; iintro ⟨H, -⟩; iapply (inv_at m ρ K ck); iexact H
theorem reached_of (K : Cells → ℕ) (ck : Cells) : records m ρ K ⊢ reached ER (kcell ck) 0 := by
  unfold records; iintro ⟨-, H⟩; iapply (reached_at (F := F) ck); iexact H

variable (K : Cells → ℕ) (c : Dev nD)

/-! ## Semaphore steps -/

/-- The signal to the barrier cell of the device `r + 1` places on: the place for its block goes with it. -/
theorem wp_sig (r : Fin 3) (n : Dev nD) (hn : n = pr c r) (s : Sem sig) (hs : s = barS) (z : ℤ) (hz : z = ((1 : ℕ) : ℤ))
    {α : Type} {Q : α → sProp 𝕄} {k : PUnit → Prog (TpuEff nD τ sig (Elt F) Λ₀ .tc) α}
    (O₁ O : CellTallies nD τ sig Unit) (hO : O₁ = O + tallyAt (barCell (pr c r)) () 1) (W : Waits sig Unit)
    (f : Buf (Elt F) ((c : Thread nD τ).loc cc0_scratch0)) :
    iprop(records m ρ K ∗ owes (c : Thread nD τ) O₁ W ∗ dutyTok ER (barCell (pr c r)) 0 c ∗ slotPts fullShare c (pr c r) f)
      ⊢ iprop((owes (c : Thread nD τ) O W -∗ wp frame (wpE (defs₀ (F := F)) 𝒱₀ (c : Thread nD τ) none) Set.univ (k ⟨⟩) Q) -∗ wp frame (wpE (defs₀ (F := F)) 𝒱₀ (c : Thread nD τ) none) Set.univ (.op (.semSignal ((n : Dev nD) : Thread nD τ) s z) k) Q) := by
  subst hn hs hz
  iintro ⟨#HR, HO, Ht, Hp⟩
  iapply (Rounds.wp_signal 𝒱₀ ER (Rd m ρ) (c : Thread nD τ) none (dst := (pr c r : Thread nD τ)) (κ := K (pr c r, none))
      (d := c) (mem_bar m ρ (pr c r) c (pr_ne c r).symm) (amount_bar m ρ (pr c r) c) () O hO) $$ [HO Ht Hp]
  isplitr; · iapply (inv_of m ρ K (pr c r, none)); iexact HR
  isplitl [HO]; · iexact HO
  isplitl [Ht]; · iexact Ht
  isplitl [Hp]
  · rw [payload_bar]; unfold barPay; iexists f; iexact Hp
  · iapply (reached_of m ρ K (pr c r, none)); iexact HR

/-- The barrier wait: the three places for `c`'s block come with it. -/
theorem wp_bar (s : Sem sig) (hs : s = barS) (z : ℤ) (hz : z = ((3 : ℕ) : ℤ))
    {α : Type} {Q : α → sProp 𝕄} {k : PUnit → Prog (TpuEff nD τ sig (Elt F) Λ₀ .tc) α} (W : Waits sig Unit) :
    iprop(records m ρ K ∗ levAts L lv ∗ cred (tallyAt (barCell c) () 3) ∗ owes (c : Thread nD τ) (O₃ c) W ∗ atPos ER (barCell c) 0 ∅ 0)
      ⊢ iprop(((owes (c : Thread nD τ) (O₃ c) (insert (SemLoc.reg barS, ()) W) ∗ atPos ER (barCell c) (0 + 1) ∅ 0
            ∗ barPay c (pr c 2) ∗ barPay c (pr c 0) ∗ barPay c (pr c 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait s z) k) Q) := by
  subst hs hz
  iintro ⟨#HR, #Hlev, Hc, HO, Hat⟩ Hk
  iapply (Rounds.wp_wait_rest_token 𝒱₀ ER (Rd m ρ) (c : Thread nD τ) none (κ := K (c, none))
      (wpE_semWait_eq 𝒱₀ (c : Thread nD τ) none Set.univ) (Set.mem_univ _) () (O := O₃ c) (W := W) (R := 0) (m := 0) (T := ∅)
      (by rw [expect_bar])) $$ [Hc HO Hat]
  · isplitr; · iapply (inv_of m ρ K (c, none)); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m ρ c)); iexact Hpay

/-- The copy of `c`'s own slot to the device `r + 1` places on: the slot's contents at share `sh r` and the place there. -/
theorem wp_copy (r : Fin 3) (n : Dev nD) (hn : n = pr c r) (src : Memref sig .tc .vmem S512x512 .bf16) (hsr : src = slotM c)
    (dst : Memref sig (Dev.tc n : Thread nD τ).2.kind .vmem S512x512 .bf16) (hds : dst = slotM c)
    (qs : DmaSem sig) (hqs : qs = sendQ (pr c r)) (qr : DmaSem sig) (hqr : qr = recvQ c)
    {hsc : dst.view.ref.isScScratch = false} {hsrc : src.view.WordExact} {hdst : dst.view.WordExact}
    {hsem : DmaTarget.Typed .vmem (.dma qr) (.remote (Dev.tc n : Thread nD τ) dst (.dma qs) hsc)}
    {α : Type} {Q : α → sProp 𝕄} {k : PUnit → Prog (TpuEff nD τ sig (Elt F) Λ₀ .tc) α}
    (O₁ O : CellTallies nD τ sig Unit) (hO : O₁ = O + tallyAt (recvCell (pr c r) c) () N) (W : Waits sig Unit) :
    iprop(records m ρ K ∗ owes (c : Thread nD τ) O₁ W ∗ dutyTok ER (sendCell c (pr c r)) 0 (pr c r) ∗ dutyTok ER (recvCell (pr c r) c) 0 c
        ∗ slotPts (sh r) c c (combAt m ρ) ∗ barPay c (pr c r))
      ⊢ iprop(((cred (tallyAt (sendCell c (pr c r)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma qs) hsc) (.dma qr) hsrc hdst hsem) k) Q) := by
  subst hn hsr hds hqs hqr
  unfold barPay slotPts
  iintro ⟨#HR, HO, Hts, Htr, Hs, ⟨%fd, Hd⟩⟩
  iapply (Rounds.wp_send_pointsTo 𝒱₀ ER (Rd m ρ) (c : Thread nD τ) none (c' := (pr c r : Thread nD τ)) (src := slotM c) (dst := slotM c)
    (sS := .dma (sendQ (pr c r))) (sem := .dma (recvQ c)) (q := sh r) (fs := combAt m ρ) (κ₁ := K (c, some (false, pr c r))) (κ₂ := K (pr c r, some (true, c)))
    (r₁ := 0) (r₂ := 0) (d₁ := pr c r) (d₂ := c) (fd := fd)
    (by rw [duties_send m ρ c (pr c r) (pr_ne c r)]; exact Finset.mem_singleton_self _)
    (by rw [duties_recv m ρ (pr c r) c (pr_ne c r).symm]; exact Finset.mem_singleton_self _)
    () () N rfl (amount_dma m ρ c _ _) (amount_dma m ρ (pr c r) _ _) O hO (W := W)
    (by rw [payload_send]; unfold sendPay slotPts; rw [gap_pr, slotM_set]; exact BI.Entails.refl _)
    (by
      rw [payload_recv]; unfold recvPay slotPts; rw [slotM_set]
      exact Entails.of_eq (pointsTo_congr fun i hi => comb_landed c fd (combAt m ρ) i hi))) $$ [HO Hts Htr Hs Hd]
  isplitr; · iapply (inv_of m ρ K (c, some (false, pr c r))); iexact HR
  isplitr; · iapply (inv_of m ρ K (pr c r, some (true, c))); iexact HR
  isplitl [Hs]; · rw [slotM_set]; iexact Hs
  isplitl [Hd]; · rw [slotM_set]; iexact Hd
  isplitl [HO]; · iexact HO
  isplitl [Hts]; · iexact Hts
  isplitr; · iapply (reached_of m ρ K (c, some (false, pr c r))); iexact HR
  isplitl [Htr]; · iexact Htr
  iapply (reached_of m ρ K (pr c r, some (true, c))); iexact HR

/-- The wait on receive cell `p`, owing nothing: slot `p` with device `p`'s block. -/
theorem wp_recv (p : Dev nD) (hp : p ≠ c) (q : DmaSem sig) (hq : q = recvQ p) {src dst : Memref sig .tc .vmem S512x512 .bf16}
    {hsrc : src.view.WordExact} {hdst : dst.view.WordExact} (W : Waits sig Unit)
    {α : Type} {Q : α → sProp 𝕄} {k : PUnit → Prog (TpuEff nD τ sig (Elt F) Λ₀ .tc) α} :
    iprop(records m ρ K ∗ cred (tallyAt (recvCell c p) () N) ∗ owes (c : Thread nD τ) 0 W ∗ atPos ER (recvCell c p) 0 ∅ 0)
      ⊢ iprop(((owes (c : Thread nD τ) 0 (insert (SemLoc.dma (recvQ p), ()) W) ∗ atPos ER (recvCell c p) (0 + 1) ∅ 0
            ∗ slotPts fullShare c p (combAt m ρ)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  iintro ⟨#HR, Hc, HO, Hat⟩ Hk
  iapply (Rounds.wp_wait_rest_token 𝒱₀ ER (Rd m ρ) (c : Thread nD τ) none (κ := K (c, some (true, p)))
      (wpE_waitDma2_eq 𝒱₀ (c : Thread nD τ) none Set.univ) (Set.mem_univ _) () (O := 0) (W := W) (R := 0) (m := 0) (T := ∅)
      (by rw [Nat.zero_add, show dst.view.dmaCredit = N from rfl, expect_recv m ρ c p hp])) $$ [Hc HO Hat]
  · isplitr; · iapply (inv_of m ρ K (c, some (true, p))); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq ((rest_recv m ρ c p hp).trans (by unfold recvPay; rfl))); iexact Hpay

/-- The wait on send cell `pr c r`, owing nothing: the share lent to that copy. -/
theorem wp_sent (r : Fin 3) (q : DmaSem sig) (hq : q = sendQ (pr c r)) {src dst : Memref sig .tc .vmem S512x512 .bf16}
    {hsrc : src.view.WordExact} {hdst : dst.view.WordExact} (W : Waits sig Unit)
    {α : Type} {Q : α → sProp 𝕄} {k : PUnit → Prog (TpuEff nD τ sig (Elt F) Λ₀ .tc) α} :
    iprop(records m ρ K ∗ cred (tallyAt (sendCell c (pr c r)) () N) ∗ owes (c : Thread nD τ) 0 W ∗ atPos ER (sendCell c (pr c r)) 0 ∅ 0)
      ⊢ iprop(((owes (c : Thread nD τ) 0 (insert (SemLoc.dma (sendQ (pr c r)), ()) W) ∗ atPos ER (sendCell c (pr c r)) (0 + 1) ∅ 0
            ∗ slotPts (sh r) c c (combAt m ρ)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  iintro ⟨#HR, Hc, HO, Hat⟩ Hk
  iapply (Rounds.wp_wait_rest_token 𝒱₀ ER (Rd m ρ) (c : Thread nD τ) none (κ := K (c, some (false, pr c r)))
      (wpE_waitDma2_eq 𝒱₀ (c : Thread nD τ) none Set.univ) (Set.mem_univ _) () (O := 0) (W := W) (R := 0) (m := 0) (T := ∅)
      (by rw [Nat.zero_add, show dst.view.dmaCredit = N from rfl, expect_send m ρ c (pr c r) (pr_ne c r)])) $$ [Hc HO Hat]
  · isplitr; · iapply (inv_of m ρ K (c, some (false, pr c r))); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq ((rest_send m ρ c (pr c r) (pr_ne c r)).trans (by unfold sendPay; rw [gap_pr]))); iexact Hpay

/-- A cell whose rounds are over closes at zero. -/
theorem close_at (ck : Cells) (R : ℕ) (hR : ∀ r, R ≤ r → (Rd (F := F) m ρ).duties (kcell ck) r = ∅) :
    iprop(records m ρ K ∗ atPos ER (kcell ck) R ∅ 0) ⊢ |={Set.univ}=> semVal (kcell ck) 0 := by
  iintro ⟨#HR, Hat⟩
  iapply (Rounds.cell_close ER (Rd m ρ) (Set.mem_univ (K ck)) (fun h => h) (R := R) hR)
  isplitr; · iapply (inv_of m ρ K ck); iexact HR
  iexact Hat

/-! ## Loads and stores -/

omit [FloatOps F] in
theorem read_wq (f : (cc0_stg1_0 : Ref sig .tc).ty.Contents (Elt F)) :
    (Memref.whole cc0_stg1_0).view.readAt (Elt F) (Rect.unit (s := S512x256) ![0, 0] S512x256.size inb_S512x256_S512x256_0_0).toLoadRect f = f :=
  Memref.readAt_unit_zero (Elt F) cc0_stg1_0 (funext fun a => by fin_cases a <;> rfl) _ f
omit [FloatOps F] in
theorem read_wo (f : (cc0_stg4_0 : Ref sig .tc).ty.Contents (Elt F)) :
    (Memref.whole cc0_stg4_0).view.readAt (Elt F) (Rect.unit (s := S256x512) ![0, 0] S256x512.size inb_S256x512_S256x512_0_0).toLoadRect f = f :=
  Memref.readAt_unit_zero (Elt F) cc0_stg4_0 (funext fun a => by fin_cases a <;> rfl) _ f

/-- A load of batch `b` of `x`; of `K`; of `V`. -/
theorem wp_x (b : Fin 2) (X : ((cc0_stg0_0 : Ref sig .tc)).ty.Contents (Elt F)) (o : Fin 3 → ℕ) (h : ∀ a, o a + S1x128x512.size a ≤ S2x128x512.size a) (e : o = ![b.val, 0, 0])
    {hl : (Memref.whole cc0_stg0_0 : Memref sig .tc .vmem S2x128x512 .bf16).view.LoadsAt (Rect.unit (s := S2x128x512) o S1x128x512.size h).toLoadRect}
    {α : Type} {Q : α → sProp 𝕄} {k : Vec F S1x128x512 .bf16 → Prog (TpuEff nD τ sig (Elt F) Λ₀ .tc) α} :
    (((c : Thread nD τ).loc cc0_stg0_0) ↦{fullShare} X)
      ⊢ iprop(((((c : Thread nD τ).loc cc0_stg0_0) ↦{fullShare} X) -∗ wp frame (wpE (defs₀ (F := F)) 𝒱₀ (c : Thread nD τ) none) Set.univ (k (xrow X b)) Q)
          -∗ wp frame (wpE (defs₀ (F := F)) 𝒱₀ (c : Thread nD τ) none) Set.univ (.op (.load (Memref.whole cc0_stg0_0 : Memref sig .tc .vmem S2x128x512 .bf16) (Rect.unit (s := S2x128x512) o S1x128x512.size h).toLoadRect hl) k) Q) := by
  subst e
  have H := read_x X b h
  exact H ▸ wp_load 𝒱₀ (c : Thread nD τ) none Set.univ (Q := Q) (m := (Memref.whole cc0_stg0_0 : Memref sig .tc .vmem S2x128x512 .bf16))
    (r := (Rect.unit (s := S2x128x512) _ S1x128x512.size h).toLoadRect) (hl := hl) (k := k) (q := fullShare) (f := X)
    (S := Finset.univ) (Finset.subset_univ _)

/-- Of `K`. -/
theorem wp_k (b : Fin 2) (X : ((cc0_stg2_0 : Ref sig .tc)).ty.Contents (Elt F)) (o : Fin 4 → ℕ) (h : ∀ a, o a + S1x128x16x64.size a ≤ S2x128x16x64.size a) (e : o = ![b.val, 0, 0, 0])
    {hl : (Memref.whole cc0_stg2_0 : Memref sig .tc .vmem S2x128x16x64 .bf16).view.LoadsAt (Rect.unit (s := S2x128x16x64) o S1x128x16x64.size h).toLoadRect}
    {α : Type} {Q : α → sProp 𝕄} {k : Vec F S1x128x16x64 .bf16 → Prog (TpuEff nD τ sig (Elt F) Λ₀ .tc) α} :
    (((c : Thread nD τ).loc cc0_stg2_0) ↦{fullShare} X)
      ⊢ iprop(((((c : Thread nD τ).loc cc0_stg2_0) ↦{fullShare} X) -∗ wp frame (wpE (defs₀ (F := F)) 𝒱₀ (c : Thread nD τ) none) Set.univ (k (kvrow X b)) Q)
          -∗ wp frame (wpE (defs₀ (F := F)) 𝒱₀ (c : Thread nD τ) none) Set.univ (.op (.load (Memref.whole cc0_stg2_0 : Memref sig .tc .vmem S2x128x16x64 .bf16) (Rect.unit (s := S2x128x16x64) o S1x128x16x64.size h).toLoadRect hl) k) Q) := by
  subst e
  have H := read_k X b h
  exact H ▸ wp_load 𝒱₀ (c : Thread nD τ) none Set.univ (Q := Q) (m := (Memref.whole cc0_stg2_0 : Memref sig .tc .vmem S2x128x16x64 .bf16))
    (r := (Rect.unit (s := S2x128x16x64) _ S1x128x16x64.size h).toLoadRect) (hl := hl) (k := k) (q := fullShare) (f := X)
    (S := Finset.univ) (Finset.subset_univ _)

/-- Of `V`. -/
theorem wp_v (b : Fin 2) (X : ((cc0_stg3_0 : Ref sig .tc)).ty.Contents (Elt F)) (o : Fin 4 → ℕ) (h : ∀ a, o a + S1x128x16x64.size a ≤ S2x128x16x64.size a) (e : o = ![b.val, 0, 0, 0])
    {hl : (Memref.whole cc0_stg3_0 : Memref sig .tc .vmem S2x128x16x64 .bf16).view.LoadsAt (Rect.unit (s := S2x128x16x64) o S1x128x16x64.size h).toLoadRect}
    {α : Type} {Q : α → sProp 𝕄} {k : Vec F S1x128x16x64 .bf16 → Prog (TpuEff nD τ sig (Elt F) Λ₀ .tc) α} :
    (((c : Thread nD τ).loc cc0_stg3_0) ↦{fullShare} X)
      ⊢ iprop(((((c : Thread nD τ).loc cc0_stg3_0) ↦{fullShare} X) -∗ wp frame (wpE (defs₀ (F := F)) 𝒱₀ (c : Thread nD τ) none) Set.univ (k (kvrow X b)) Q)
          -∗ wp frame (wpE (defs₀ (F := F)) 𝒱₀ (c : Thread nD τ) none) Set.univ (.op (.load (Memref.whole cc0_stg3_0 : Memref sig .tc .vmem S2x128x16x64 .bf16) (Rect.unit (s := S2x128x16x64) o S1x128x16x64.size h).toLoadRect hl) k) Q) := by
  subst e
  have H := read_v X b h
  exact H ▸ wp_load 𝒱₀ (c : Thread nD τ) none Set.univ (Q := Q) (m := (Memref.whole cc0_stg3_0 : Memref sig .tc .vmem S2x128x16x64 .bf16))
    (r := (Rect.unit (s := S2x128x16x64) _ S1x128x16x64.size h).toLoadRect) (hl := hl) (k := k) (q := fullShare) (f := X)
    (S := Finset.univ) (Finset.subset_univ _)

/-- Of the whole `Wq` block. -/
theorem wp_wq (X : ((cc0_stg1_0 : Ref sig .tc)).ty.Contents (Elt F)) (o : Fin 2 → ℕ) (h : ∀ a, o a + S512x256.size a ≤ S512x256.size a) (e : o = ![0, 0])
    {hl : (Memref.whole cc0_stg1_0 : Memref sig .tc .vmem S512x256 .bf16).view.LoadsAt (Rect.unit (s := S512x256) o S512x256.size h).toLoadRect}
    {α : Type} {Q : α → sProp 𝕄} {k : Vec F S512x256 .bf16 → Prog (TpuEff nD τ sig (Elt F) Λ₀ .tc) α} :
    (((c : Thread nD τ).loc cc0_stg1_0) ↦{fullShare} X)
      ⊢ iprop(((((c : Thread nD τ).loc cc0_stg1_0) ↦{fullShare} X) -∗ wp frame (wpE (defs₀ (F := F)) 𝒱₀ (c : Thread nD τ) none) Set.univ (k (X)) Q)
          -∗ wp frame (wpE (defs₀ (F := F)) 𝒱₀ (c : Thread nD τ) none) Set.univ (.op (.load (Memref.whole cc0_stg1_0 : Memref sig .tc .vmem S512x256 .bf16) (Rect.unit (s := S512x256) o S512x256.size h).toLoadRect hl) k) Q) := by
  subst e
  have H := congrArg k (read_wq X)
  exact H ▸ wp_load 𝒱₀ (c : Thread nD τ) none Set.univ (Q := Q) (m := (Memref.whole cc0_stg1_0 : Memref sig .tc .vmem S512x256 .bf16))
    (r := (Rect.unit (s := S512x256) _ S512x256.size h).toLoadRect) (hl := hl) (k := k) (q := fullShare) (f := X)
    (S := Finset.univ) (Finset.subset_univ _)

/-- Of the whole `Wo` block. -/
theorem wp_wo (X : ((cc0_stg4_0 : Ref sig .tc)).ty.Contents (Elt F)) (o : Fin 2 → ℕ) (h : ∀ a, o a + S256x512.size a ≤ S256x512.size a) (e : o = ![0, 0])
    {hl : (Memref.whole cc0_stg4_0 : Memref sig .tc .vmem S256x512 .bf16).view.LoadsAt (Rect.unit (s := S256x512) o S256x512.size h).toLoadRect}
    {α : Type} {Q : α → sProp 𝕄} {k : Vec F S256x512 .bf16 → Prog (TpuEff nD τ sig (Elt F) Λ₀ .tc) α} :
    (((c : Thread nD τ).loc cc0_stg4_0) ↦{fullShare} X)
      ⊢ iprop(((((c : Thread nD τ).loc cc0_stg4_0) ↦{fullShare} X) -∗ wp frame (wpE (defs₀ (F := F)) 𝒱₀ (c : Thread nD τ) none) Set.univ (k (X)) Q)
          -∗ wp frame (wpE (defs₀ (F := F)) 𝒱₀ (c : Thread nD τ) none) Set.univ (.op (.load (Memref.whole cc0_stg4_0 : Memref sig .tc .vmem S256x512 .bf16) (Rect.unit (s := S256x512) o S256x512.size h).toLoadRect hl) k) Q) := by
  subst e
  have H := congrArg k (read_wo X)
  exact H ▸ wp_load 𝒱₀ (c : Thread nD τ) none Set.univ (Q := Q) (m := (Memref.whole cc0_stg4_0 : Memref sig .tc .vmem S256x512 .bf16))
    (r := (Rect.unit (s := S256x512) _ S256x512.size h).toLoadRect) (hl := hl) (k := k) (q := fullShare) (f := X)
    (S := Finset.univ) (Finset.subset_univ _)

/-- A load from slot `p` of a value that is not used, -/
theorem wp_slot_load (p : Dev nD) (o : Fin 3 → ℕ) (h : ∀ a, o a + S1x256x512.size a ≤ S4x512x512.size a) (e : o 0 = p.val)
    (f : Buf (Elt F) ((c : Thread nD τ).loc cc0_scratch0)) {hl : combM.view.LoadsAt (Rect.unit (s := S4x512x512) o S1x256x512.size h).toLoadRect}
    {α : Type} {Q : α → sProp 𝕄} {k : Vec F S1x256x512 .bf16 → Prog (TpuEff nD τ sig (Elt F) Λ₀ .tc) α} :
    slotPts fullShare c p f
      ⊢ iprop((slotPts fullShare c p f -∗ wp frame (wpE (defs₀ (F := F)) 𝒱₀ (c : Thread nD τ) none) Set.univ (k (combM.view.readAt (Elt F) (Rect.unit (s := S4x512x512) o S1x256x512.size h).toLoadRect f)) Q)
          -∗ wp frame (wpE (defs₀ (F := F)) 𝒱₀ (c : Thread nD τ) none) Set.univ (.op (.load combM (Rect.unit (s := S4x512x512) o S1x256x512.size h).toLoadRect hl) k) Q) := by
  exact wp_load 𝒱₀ (c : Thread nD τ) none Set.univ (Q := Q) (m := combM)
    (r := (Rect.unit (s := S4x512x512) o S1x256x512.size h).toLoadRect) (hl := hl) (k := k) (q := fullShare) (f := f)
    (S := slotS p) (load_slot p o _ h e rfl)
/-- and a store of 256 rows into it. -/
theorem wp_slot_store (p : Dev nD) (o : Fin 3 → ℕ) (h : ∀ a, o a + S1x256x512.size a ≤ S4x512x512.size a) (e : o 0 = p.val)
    (f : Buf (Elt F) ((c : Thread nD τ).loc cc0_scratch0)) (w : Vec F S1x256x512 .bf16)
    {hx : (combM.access (Rect.unit (s := S4x512x512) o S1x256x512.size h)).Stores Finset.univ}
    {hm : Finset.univ = Finset.univ ∨ ∀ a, (Rect.unit (s := S4x512x512) o S1x256x512.size h).stride a = 1}
    {α : Type} {Q : α → sProp 𝕄} {k : PUnit → Prog (TpuEff nD τ sig (Elt F) Λ₀ .tc) α} :
    slotPts fullShare c p f
      ⊢ iprop((slotPts fullShare c p ((combM.access (Rect.unit (s := S4x512x512) o S1x256x512.size h)).write (Elt F) f w Finset.univ) -∗ wp frame (wpE (defs₀ (F := F)) 𝒱₀ (c : Thread nD τ) none) Set.univ (k ⟨⟩) Q)
          -∗ wp frame (wpE (defs₀ (F := F)) 𝒱₀ (c : Thread nD τ) none) Set.univ (.op (.store combM (Rect.unit (s := S4x512x512) o S1x256x512.size h) w Finset.univ hx hm) k) Q) := by
  exact wp_store 𝒱₀ (c : Thread nD τ) none Set.univ (Q := Q) (m := combM)
    (r := (Rect.unit (s := S4x512x512) o S1x256x512.size h)) (w := w) (Mk := Finset.univ) (hx := hx) (hm := hm) (k := k) (f := f)
    (S := slotS p) (store_slot p o _ h e rfl Finset.univ)

/-- A store of one batch of `K` or `V` transposed; of one batch of the result. -/
theorem wp_kvt_store (X : ((cc0_scratch1 : Ref sig .tc)).ty.Contents (Elt F)) (o : Fin 5 → ℕ) (h : ∀ a, o a + S1x1x16x128x64.size a ≤ S2x2x16x128x64.size a) (w : Vec F S1x1x16x128x64 .bf16)
    {hx : ((Memref.whole cc0_scratch1 : Memref sig .tc .vmem S2x2x16x128x64 _).access (Rect.unit (s := S2x2x16x128x64) o S1x1x16x128x64.size h)).Stores Finset.univ}
    {hm : Finset.univ = Finset.univ ∨ ∀ a, (Rect.unit (s := S2x2x16x128x64) o S1x1x16x128x64.size h).stride a = 1}
    {α : Type} {Q : α → sProp 𝕄} {k : PUnit → Prog (TpuEff nD τ sig (Elt F) Λ₀ .tc) α} :
    (((c : Thread nD τ).loc cc0_scratch1) ↦{fullShare} X)
      ⊢ iprop(((((c : Thread nD τ).loc cc0_scratch1) ↦{fullShare} (((Memref.whole cc0_scratch1).access (Rect.unit (s := S2x2x16x128x64) o S1x1x16x128x64.size h)).write (Elt F) X w Finset.univ)) -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole cc0_scratch1) (Rect.unit (s := S2x2x16x128x64) o S1x1x16x128x64.size h) w Finset.univ hx hm) k) Q) := by
  exact wp_store 𝒱₀ (c : Thread nD τ) none Set.univ (Q := Q) (m := Memref.whole cc0_scratch1)
    (r := (Rect.unit (s := S2x2x16x128x64) o S1x1x16x128x64.size h)) (w := w) (Mk := Finset.univ) (hx := hx) (hm := hm) (k := k) (f := X)
    (S := Finset.univ) (Finset.subset_univ _)

/-- Of the result. -/
theorem wp_out_store (X : ((cc0_stg5_0 : Ref sig .tc)).ty.Contents (Elt F)) (o : Fin 3 → ℕ) (h : ∀ a, o a + S1x128x512.size a ≤ S2x128x512.size a) (w : Vec F S1x128x512 .f32)
    {hx : ((Memref.whole cc0_stg5_0 : Memref sig .tc .vmem S2x128x512 _).access (Rect.unit (s := S2x128x512) o S1x128x512.size h)).Stores Finset.univ}
    {hm : Finset.univ = Finset.univ ∨ ∀ a, (Rect.unit (s := S2x128x512) o S1x128x512.size h).stride a = 1}
    {α : Type} {Q : α → sProp 𝕄} {k : PUnit → Prog (TpuEff nD τ sig (Elt F) Λ₀ .tc) α} :
    (((c : Thread nD τ).loc cc0_stg5_0) ↦{fullShare} X)
      ⊢ iprop(((((c : Thread nD τ).loc cc0_stg5_0) ↦{fullShare} (((Memref.whole cc0_stg5_0).access (Rect.unit (s := S2x128x512) o S1x128x512.size h)).write (Elt F) X w Finset.univ)) -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole cc0_stg5_0) (Rect.unit (s := S2x128x512) o S1x128x512.size h) w Finset.univ hx hm) k) Q) := by
  exact wp_store 𝒱₀ (c : Thread nD τ) none Set.univ (Q := Q) (m := Memref.whole cc0_stg5_0)
    (r := (Rect.unit (s := S2x128x512) o S1x128x512.size h)) (w := w) (Mk := Finset.univ) (hx := hx) (hm := hm) (k := k) (f := X)
    (S := Finset.univ) (Finset.subset_univ _)

/-- A load of slot `p`, held at any share. -/
theorem wp_slab (p : Dev nD) (q : PosShare TreeShare) (o : Fin 3 → ℕ) (h : ∀ a, o a + S1x512x512.size a ≤ S4x512x512.size a)
    (e : o = ![p.val, 0, 0]) {hl : combM.view.LoadsAt (Rect.unit (s := S4x512x512) o S1x512x512.size h).toLoadRect}
    {α : Type} {Q : α → sProp 𝕄} {k : Vec F S1x512x512 .bf16 → Prog (TpuEff nD τ sig (Elt F) Λ₀ .tc) α} :
    slotPts q c p (combAt m ρ)
      ⊢ iprop((slotPts q c p (combAt m ρ) -∗ wp frame (wpE (defs₀ (F := F)) 𝒱₀ (c : Thread nD τ) none) Set.univ (k (slab m ρ p)) Q)
          -∗ wp frame (wpE (defs₀ (F := F)) 𝒱₀ (c : Thread nD τ) none) Set.univ (.op (.load combM (Rect.unit (s := S4x512x512) o S1x512x512.size h).toLoadRect hl) k) Q) := by
  rw [← read_slab m ρ p o h e]
  exact wp_load 𝒱₀ (c : Thread nD τ) none Set.univ (Q := Q) (m := combM)
    (r := (Rect.unit (s := S4x512x512) o S1x512x512.size h).toLoadRect) (hl := hl) (k := k) (q := q) (f := combAt m ρ)
    (S := slotS p) (load_slot p o _ h (by rw [e]; rfl) rfl)

/-- A load of four heads of the transposed `K` / `V`. -/
theorem wp_heads (b kv : Fin 2) (p : Dev nD) (o : Fin 5 → ℕ) (h : ∀ a, o a + S1x1x4x128x64.size a ≤ S2x2x16x128x64.size a)
    (e : o = ![b.val, kv.val, 4 * p.val, 0, 0]) {hl : kvtM.view.LoadsAt (Rect.unit (s := S2x2x16x128x64) o S1x1x4x128x64.size h).toLoadRect}
    {α : Type} {Q : α → sProp 𝕄} {k : Vec F S1x1x4x128x64 .bf16 → Prog (TpuEff nD τ sig (Elt F) Λ₀ .tc) α} :
    (((c : Thread nD τ).loc cc0_scratch1) ↦{fullShare} kvtAt m ρ c)
      ⊢ iprop(((((c : Thread nD τ).loc cc0_scratch1) ↦{fullShare} kvtAt m ρ c) -∗ wp frame (wpE (defs₀ (F := F)) 𝒱₀ (c : Thread nD τ) none) Set.univ (k (heads m ρ c b kv p)) Q)
          -∗ wp frame (wpE (defs₀ (F := F)) 𝒱₀ (c : Thread nD τ) none) Set.univ (.op (.load kvtM (Rect.unit (s := S2x2x16x128x64) o S1x1x4x128x64.size h).toLoadRect hl) k) Q) := by
  rw [← read_heads m ρ c b kv p o h e]
  exact wp_load 𝒱₀ (c : Thread nD τ) none Set.univ (Q := Q) (m := kvtM)
    (r := (Rect.unit (s := S2x2x16x128x64) o S1x1x4x128x64.size h).toLoadRect) (hl := hl) (k := k) (q := fullShare) (f := kvtAt m ρ c)
    (S := Finset.univ) (Finset.subset_univ _)

end Cert.Exchange

end
-- ==== Proof.Folds.lean ====
/-
# The body's payloads are folds

The generated payloads cut each chunk's computation in a different place; each is `fold` of the same chunk.
-/
module

public import proofs.«01_k».proof.Proof.Contents

@[expose] public section

noncomputable section

namespace Cert.Exchange

open Cert.KernelIdeal Cert.KernelIdeal.Gen
open Idealize.ShloMosaic
open Idealize.ShloMosaic.TcCoe

variable {F : FTy → Type} [FloatOps F]

section Pays

variable (M : IVec S1x128x128 1) (R : IVec S1x128x1 1) (x : Vec F S1x128x512 .bf16) (acc : FVec F S128x512 .f32)
  (w : Vec F S1x512x512 .bf16) (k v : Vec F S1x1x4x128x64 .bf16)

/-- The own chunk at batch 0, -/
theorem fold_own0 : k0_pay23 R acc (k0_pay20 w) (k0_pay21 v) (k0_pay22 M x w k) = fold M R (k0_pay14 x) acc w k v := rfl
/-- and at batch 1. -/
theorem fold_own1 : k0_pay26 R acc (k0_pay20 w) (k0_pay24 v) (k0_pay25 M (k0_pay15 x) (k0_pay19 w) k) = fold M R (k0_pay14 x) acc w k v := rfl
/-- The first chunk received, -/
theorem fold_first0 : k0_pay31 M R acc (k0_pay29 w) (k0_pay30 (k0_pay14 x) w) k v = fold M R (k0_pay14 x) acc w k v := rfl
theorem fold_first1 : k0_pay33 M R acc (k0_pay29 w) (k0_pay32 (k0_pay15 x) (k0_pay28 w)) k v = fold M R (k0_pay14 x) acc w k v := rfl
/-- the second, -/
theorem fold_second0 : k0_pay39 R acc (k0_pay36 w) (k0_pay37 v) (k0_pay38 M R (k0_pay14 x) w k) (FloatOps.ofBits .f32 0#32)
    = fold M R (k0_pay14 x) acc w k v := rfl
theorem fold_second1 : k0_pay42 R acc (k0_pay36 w) (k0_pay40 v) (k0_pay41 M R (k0_pay15 x) (k0_pay35 w) k) (FloatOps.ofBits .f32 0#32)
    = fold M R (k0_pay14 x) acc w k v := rfl
/-- and the third, where batch 1 ends in the payload that is stored. -/
theorem fold_third0 : k0_pay48 M R acc (k0_pay45 w) (k0_pay46 v) (k0_pay47 (k0_pay14 x) w k) = fold M R (k0_pay14 x) acc w k v := rfl
theorem fold_third1 : k0_pay52 M R acc (k0_pay45 w) (k0_pay49 v) (k0_pay50 (k0_pay15 x) (k0_pay44 w) k)
    = k0_pay51 (fold M R (k0_pay14 x) acc w k v) := rfl

end Pays

variable (m : (ℓ : Loc nD τ sig) → Buf (Elt F) ℓ) (ρ : Dev nD → PrngReg)

/-- What the body stores for batch 0, -/
theorem pay_batch0 (c : Dev nD) :
    k0_pay51
        (k0_pay48 (maskAt c) (keepAt (F := F) c)
          (k0_pay39 (keepAt (F := F) c)
            (k0_pay31 (maskAt c) (keepAt (F := F) c)
              (k0_pay23 (keepAt (F := F) c) k0_pay16 (k0_pay20 (slab m ρ c)) (k0_pay21 (heads m ρ c 0 1 c))
                (k0_pay22 (maskAt c) (xrow (xstg m ρ c) 0) (slab m ρ c) (heads m ρ c 0 0 c)))
              (k0_pay29 (slab m ρ (pr c 2))) (k0_pay30 (k0_pay14 (xrow (xstg m ρ c) 0)) (slab m ρ (pr c 2)))
              (heads m ρ c 0 0 (pr c 2)) (heads m ρ c 0 1 (pr c 2)))
            (k0_pay36 (slab m ρ (pr c 0))) (k0_pay37 (heads m ρ c 0 1 (pr c 0)))
            (k0_pay38 (maskAt c) (keepAt (F := F) c)
              (k0_pay14 (xrow (xstg m ρ c) 0)) (slab m ρ (pr c 0)) (heads m ρ c 0 0 (pr c 0)))
            (FloatOps.ofBits .f32 0#32))
          (k0_pay45 (slab m ρ (pr c 1))) (k0_pay46 (heads m ρ c 0 1 (pr c 1)))
          (k0_pay47 (k0_pay14 (xrow (xstg m ρ c) 0)) (slab m ρ (pr c 1)) (heads m ρ c 0 0 (pr c 1))))
      = k0_pay51 (accAt m ρ c 0) := by
  rw [fold_own0, fold_first0, fold_second0, fold_third0]; rfl

/-- and for batch 1. -/
theorem pay_batch1 (c : Dev nD) :
    k0_pay52 (maskAt c) (keepAt (F := F) c)
      (k0_pay42 (keepAt (F := F) c)
        (k0_pay33 (maskAt c) (keepAt (F := F) c)
          (k0_pay26 (keepAt (F := F) c) k0_pay17 (k0_pay20 (slab m ρ c)) (k0_pay24 (heads m ρ c 1 1 c))
            (k0_pay25 (maskAt c) (k0_pay15 (xrow (xstg m ρ c) 1)) (k0_pay19 (slab m ρ c)) (heads m ρ c 1 0 c)))
          (k0_pay29 (slab m ρ (pr c 2))) (k0_pay32 (k0_pay15 (xrow (xstg m ρ c) 1)) (k0_pay28 (slab m ρ (pr c 2))))
          (heads m ρ c 1 0 (pr c 2)) (heads m ρ c 1 1 (pr c 2)))
        (k0_pay36 (slab m ρ (pr c 0))) (k0_pay40 (heads m ρ c 1 1 (pr c 0)))
        (k0_pay41 (maskAt c) (keepAt (F := F) c) (k0_pay15 (xrow (xstg m ρ c) 1)) (k0_pay35 (slab m ρ (pr c 0))) (heads m ρ c 1 0 (pr c 0)))
        (FloatOps.ofBits .f32 0#32))
      (k0_pay45 (slab m ρ (pr c 1))) (k0_pay49 (heads m ρ c 1 1 (pr c 1)))
      (k0_pay50 (k0_pay15 (xrow (xstg m ρ c) 1)) (k0_pay44 (slab m ρ (pr c 1))) (heads m ρ c 1 0 (pr c 1)))
      = k0_pay51 (accAt m ρ c 1) := by
  rw [fold_own1, fold_first1, fold_second1, fold_third1]; rfl

/-- Payloads equal to these leave `outAt`. -/
theorem out_stored_of (c : Dev nD) (f : (cc0_stg5_0 : Ref sig .tc).ty.Contents (Elt F)) (P₀ P₁ : FVec F S1x128x512 .f32)
    (e₀ : P₀ = k0_pay51 (accAt m ρ c 0)) (e₁ : P₁ = k0_pay51 (accAt m ρ c 1))
    (h₀ : ∀ a, (![0, 0, 0] : Fin 3 → ℕ) a + S1x128x512.size a ≤ S2x128x512.size a) (h₁ : ∀ a, (![1, 0, 0] : Fin 3 → ℕ) a + S1x128x512.size a ≤ S2x128x512.size a) :
    ((Memref.whole cc0_stg5_0).access (Rect.unit (s := S2x128x512) ![1, 0, 0] S1x128x512.size h₁)).write (Elt F)
      (((Memref.whole cc0_stg5_0).access (Rect.unit (s := S2x128x512) ![0, 0, 0] S1x128x512.size h₀)).write (Elt F) f P₀ Finset.univ)
      P₁ Finset.univ = outAt m ρ c := by
  subst e₀ e₁; exact out_stored m ρ c f h₀ h₁

end Cert.Exchange

end
-- ==== Proof.Body.lean ====
/-
# The body of the kernel, run once at a symbolic device

From what the launch hands device `c` to the result's staging buffer holding `outAt`, `comb` whole again and every cell of
the exchange closed at zero.
-/
module

public import proofs.«01_k».proof.Proof.Steps
public import proofs.«01_k».proof.Proof.Folds
public import proofs.«01_k».proof.Proof.Gen.KernelIdeal.Points

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and ends with -/

/-- The tokens for what `c` does towards the device `r + 1` places on: its signal, its copy's landing, its copy's reading. -/
def payTok (c : Dev nD) (r : Fin 3) : sProp 𝕄 :=
  iprop(dutyTok ER (barCell (pr c r)) 0 c ∗ dutyTok ER (recvCell (pr c r) c) 0 c ∗ dutyTok ER (sendCell c (pr c r)) 0 (pr c r))

/-- Its positions at its own cells and the tokens of what it does. -/
def linear (c : Dev nD) : sProp 𝕄 :=
  iprop((bigSep Finset.univ fun i : Option (Bool × Fin 4) => atPos ER (kcell (c, i)) 0 ∅ 0) ∗ bigSep Finset.univ fun r : Fin 3 => payTok c r)

/-- The credits of the waits that nothing of its own pays. -/
def credits (c : Dev nD) : sProp 𝕄 :=
  iprop(cred (tallyAt (barCell c) () 3) ∗ bigSep Finset.univ fun r : Fin 3 => cred (tallyAt (recvCell c (pr c r)) () N))

def start (c : Dev nD) : sProp 𝕄 := iprop((∃ K, records m ρ K ∗ linear c) ∗ credits c ∗ levAts L lv)

def Φ₀ (c : Dev nD) : sProp 𝕄 :=
  iprop(start m ρ c ∗ (∃ f, ((c : Thread nD τ).loc cc0_scratch0) ↦{fullShare} f) ∗ ∃ f, ((c : Thread nD τ).loc cc0_scratch1) ↦{fullShare} f)
def Φ₁ (c : Dev nD) : sProp 𝕄 :=
  iprop((((c : Thread nD τ).loc cc0_scratch0) ↦{fullShare} combAt m ρ) ∗ (((c : Thread nD τ).loc cc0_scratch1) ↦{fullShare} kvtAt m ρ c)
    ∗ bigSep Finset.univ fun i : Option (Bool × Fin 4) => semVal (kcell (c, i)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => kstg m ρ c
    | ⟨3, _⟩ => vstg m ρ c
    | ⟨4, _⟩ => wostg m ρ c
    | ⟨5, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Splitting `comb` -/

omit [FloatOps F] in
/-- `comb` whole is its four slots. -/
theorem comb_slots (c : Dev nD) (f : Buf (Elt F) ((c : Thread nD τ).loc cc0_scratch0)) :
    ((((c : Thread nD τ).loc cc0_scratch0) ↦{fullShare} f) : sProp 𝕄)
      = iprop(slotPts fullShare c c f ∗ slotPts fullShare c (pr c 2) f ∗ slotPts fullShare c (pr c 0) f ∗ slotPts fullShare c (pr c 1) f) := by
  have h := Ring.pointsTo_blocks (Ix := Unit) (Name := ℕ) (U := UU) (Lvl := ℕ) (ℓ := (c : Thread nD τ).loc cc0_scratch0) (q := fullShare)
    slotS slot_disjoint slot_cover f
  rw [h, bigSep_univ_eq_bigSepL [c, pr c 2, pr c 0, pr c 1] (by clear h f; revert c; decide) (by clear h f; revert c; decide),
    bigSepL_cons_cons, bigSepL_cons_cons, bigSepL_cons_cons, bigSepL_singleton]
  rfl

omit [FloatOps F] in
/-- A slot at full share is the part kept and the three parts lent. -/
theorem slot_shares (c p : Dev nD) (f : Buf (Elt F) ((c : Thread nD τ).loc cc0_scratch0)) :
    (slotPts fullShare c p f : sProp 𝕄)
      ⊣⊢ iprop((slotPts fullShare.left.left c p f ∗ slotPts (sh 0) c p f) ∗ slotPts (sh 1) c p f ∗ slotPts (sh 2) c p f) := by
  unfold slotPts sh
  exact (pointsTo_share (PosShare.mem_left_op_right fullShare)).trans
    (sep_congr (pointsTo_share (PosShare.mem_left_op_right _)) (pointsTo_share (PosShare.mem_left_op_right _)))

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A device's nine cells one by one. -/
theorem bigSep_cells (c : Dev nD) (Φ : Option (Bool × Fin 4) → sProp 𝕄) :
    bigSep Finset.univ Φ = iprop(Φ none ∗ Φ (some (true, pr c 2)) ∗ Φ (some (true, pr c 0)) ∗ Φ (some (true, pr c 1)) ∗ Φ (some (true, c))
      ∗ Φ (some (false, pr c 2)) ∗ Φ (some (false, pr c 0)) ∗ Φ (some (false, pr c 1)) ∗ Φ (some (false, c))) :=
  bigSep_univ_eq_bigSepL [none, some (true, pr c 2), some (true, pr c 0), some (true, pr c 1), some (true, c),
    some (false, pr c 2), some (false, pr c 0), some (false, pr c 1), some (false, c)] (by revert c; decide) (by revert c; decide) Φ

/-- The two stores of a device's own block leave it in its own slot. -/
theorem slot_stored (c : Dev nD) (f : Buf (Elt F) ((c : Thread nD τ).loc cc0_scratch0)) (o₁ o₂ : Fin 3 → ℕ)
    (h₁ : ∀ a, o₁ a + S1x256x512.size a ≤ S4x512x512.size a) (h₂ : ∀ a, o₂ a + S1x256x512.size a ≤ S4x512x512.size a)
    (e₁ : o₁ = ![c.val, 0, 0]) (e₂ : o₂ = ![c.val, 256, 0]) :
    (slotPts fullShare c c ((combM.access (Rect.unit (s := S4x512x512) o₂ S1x256x512.size h₂)).write (Elt F)
      ((combM.access (Rect.unit (s := S4x512x512) o₁ S1x256x512.size h₁)).write (Elt F) f (k0_pay1 (wqstg m ρ c)) Finset.univ)
      (k0_pay2 (wostg m ρ c)) Finset.univ) : sProp 𝕄)
      ⊢ slotPts fullShare c c (combAt m ρ) :=
  Entails.of_eq (pointsTo_congr fun i hi => comb_stored m ρ c f o₁ o₂ h₁ h₂ e₁ e₂ i hi)

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

variable (K : Cells → ℕ)

def bodyPre (c : Dev nD) : sProp 𝕄 :=
  iprop(((records m ρ K ∗ linear c) ∗ credits c ∗ levAts L lv ∗ (∃ f, ((c : Thread nD τ).loc cc0_scratch0) ↦{fullShare} f)
      ∗ ∃ f, ((c : Thread nD τ).loc cc0_scratch1) ↦{fullShare} f)
    ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ m ρ c ∗ (dats m ρ 0 c).owesAt () t0_0.succ ∗ stg c cc0_stg0_0 (xstg m ρ c) ∗ stg c cc0_stg1_0 (wqstg m ρ c)
    ∗ stg c cc0_stg2_0 (kstg m ρ c) ∗ stg c cc0_stg3_0 (vstg m ρ c) ∗ stg c cc0_stg4_0 (wostg m ρ c) ∗ stg c cc0_stg5_0 (outAt m ρ c))

set_option maxHeartbeats 8000000 in
set_option maxRecDepth 65536 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel
  simp only [semSignalWord, semWaitWord, Prog.lift, Prog.bind_op, Prog.bind_ret, Prog.pure_eq_ret, Prog.bind_assoc, wp_deviceId]
  unfold bodyPre linear credits
  rw [bigSep_cells c, bigSep_fin3, bigSep_fin3]
  unfold payTok
  iintro ⟨⟨⟨⟨#HR, ⟨HaB, HaR2, HaR0, HaR1, HaRc, HaS2, HaS0, HaS1, HaSc⟩, ⟨HtB0, HtR0, HtS0⟩, ⟨HtB1, HtR1, HtS1⟩, HtB2, HtR2, HtS2⟩,
      ⟨HcB, HcR0, HcR1, HcR2⟩, #Hlev, ⟨%f6, H6⟩, ⟨%f7, Ht⟩⟩,
    Ho, ⟨%d0, %g0, %hg0, Hx⟩, ⟨%d1, %g1, %hg1, Hwq⟩, ⟨%d2, %g2, %hg2, Hkk⟩, ⟨%d3, %g3, %hg3, Hvv⟩, ⟨%d4, %g4, %hg4, Hwo⟩, ⟨%d5, %g5, %hg5, Hout⟩⟩, Hk⟩
  have hx : g0 = xstg m ρ c := by rw [hg0]; unfold Dat.before; rw [if_pos (fetch0_0 t0_0)]; rfl
  have hwq : g1 = wqstg m ρ c := by rw [hg1]; unfold Dat.before; rw [if_pos (fetch0_1 t0_0)]; rfl
  have hkk : g2 = kstg m ρ c := by rw [hg2]; unfold Dat.before; rw [if_pos (fetch0_2 t0_0)]; rfl
  have hvv : g3 = vstg m ρ c := by rw [hg3]; unfold Dat.before; rw [if_pos (fetch0_3 t0_0)]; rfl
  have hwo : g4 = wostg m ρ c := by rw [hg4]; unfold Dat.before; rw [if_pos (fetch0_4 t0_0)]; rfl
  subst hx hwq hkk hvv hwo
  unfold Dat.owesAt Pipeline.owesWithin
  icases Ho with ⟨%W, %hW, HO⟩
  rw [show (dats m ρ 0 c).owed t0_0.castSucc = O₀ c from rfl]
  -- `comb` in its four slots
  ihave H6s := (Entails.of_eq (comb_slots c f6)) $$ H6
  icases H6s with ⟨Hc, Hp2, Hp0, Hp1⟩
  -- its own block into its own slot
  iapply (wp_wq c _ _ _ rfl) $$ Hwq; iintro Hwq
  iapply (wp_slot_load c c _ (k0_off1_inb c) (congrFun (k0_off1_eq c) 0)) $$ Hc; iintro Hc
  iapply (wp_slot_store c c _ (k0_off1_inb c) (congrFun (k0_off1_eq c) 0)) $$ Hc; iintro Hc
  iapply (wp_wo c _ _ _ rfl) $$ Hwo; iintro Hwo
  iapply (wp_slot_load c c _ (k0_off2_inb c) (congrFun (k0_off2_eq c) 0)) $$ Hc; iintro Hc
  iapply (wp_slot_store c c _ (k0_off2_inb c) (congrFun (k0_off2_eq c) 0)) $$ Hc; iintro Hc
  ihave Hc := (slot_stored m ρ c f6 _ _ (k0_off1_inb c) (k0_off2_inb c) (k0_off1_eq c) (k0_off2_eq c)) $$ Hc
  ihave Hsh := (show _ ⊢ _ from (slot_shares c c (combAt m ρ)).1) $$ Hc
  icases Hsh with ⟨⟨Hc, Hs0⟩, Hs1, Hs2⟩
  iapply (wp_sig m ρ K c 2 _ (dev1_eq c) _ rfl _ (by decide) (O₀ c) (O₁ c) rfl W f6) $$ [HO HtB2 Hp2]
  · isplitr; · iexact HR
    isplitl [HO]; · iexact HO
    isplitl [HtB2]; · iexact HtB2
    iexact Hp2
  iintro HO
  iapply (wp_sig m ρ K c 0 _ (dev2_eq c) _ rfl _ (by decide) (O₁ c) (O₂ c) rfl W f6) $$ [HO HtB0 Hp0]
  · isplitr; · iexact HR
    isplitl [HO]; · iexact HO
    isplitl [HtB0]; · iexact HtB0
    iexact Hp0
  iintro HO
  iapply (wp_sig m ρ K c 1 _ (dev3_eq c) _ rfl _ (by decide) (O₂ c) (O₃ c) rfl W f6) $$ [HO HtB1 Hp1]
  · isplitr; · iexact HR
    isplitl [HO]; · iexact HO
    isplitl [HtB1]; · iexact HtB1
    iexact Hp1
  iintro HO
  iapply (wp_bar m ρ K c _ rfl _ (by decide) W) $$ [HcB HO HaB]
  · isplitr; · iexact HR
    isplitr; · iexact Hlev
    isplitl [HcB]; · iexact HcB
    isplitl [HO]; · iexact HO
    iexact HaB
  iintro ⟨HO, HaB, Hd2, Hd0, Hd1⟩
  iapply (wp_copy m ρ K c 2 _ (dev4_eq c) _ (slotM_of c _ _ (k0_off5_eq c)) _ (slotM_of c _ _ (k0_off5_eq c))
      _ (sendQ_of (pr c 2) _ _ (k0_off3_eq c 2)) _ (recvQ_of c _ _ (k0_off4_eq c)) (O₃ c) (O₄ c) rfl _) $$ [HO HtS2 HtR2 Hs2 Hd2]
  · isplitr; · iexact HR
    isplitl [HO]; · iexact HO
    isplitl [HtS2]; · iexact HtS2
    isplitl [HtR2]; · iexact HtR2
    isplitl [Hs2]; · iexact Hs2
    iexact Hd2
  iintro ⟨HcS2, HO⟩
  iapply (wp_copy m ρ K c 0 _ (dev5_eq c) _ (slotM_of c _ _ (k0_off5_eq c)) _ (slotM_of c _ _ (k0_off5_eq c))
      _ (sendQ_of (pr c 0) _ _ (k0_off3_eq c 0)) _ (recvQ_of c _ _ (k0_off4_eq c)) (O₄ c) (O₅ c) rfl _) $$ [HO HtS0 HtR0 Hs0 Hd0]
  · isplitr; · iexact HR
    isplitl [HO]; · iexact HO
    isplitl [HtS0]; · iexact HtS0
    isplitl [HtR0]; · iexact HtR0
    isplitl [Hs0]; · iexact Hs0
    iexact Hd0
  iintro ⟨HcS0, HO⟩
  iapply (wp_copy m ρ K c 1 _ (dev6_eq c) _ (slotM_of c _ _ (k0_off5_eq c)) _ (slotM_of c _ _ (k0_off5_eq c))
      _ (sendQ_of (pr c 1) _ _ (k0_off3_eq c 1)) _ (recvQ_of c _ _ (k0_off4_eq c)) (O₅ c) (0) (zero_add _).symm _) $$ [HO HtS1 HtR1 Hs1 Hd1]
  · isplitr; · iexact HR
    isplitl [HO]; · iexact HO
    isplitl [HtS1]; · iexact HtS1
    isplitl [HtR1]; · iexact HtR1
    isplitl [Hs1]; · iexact Hs1
    iexact Hd1
  iintro ⟨HcS1, HO⟩
  -- `K` and `V` transposed
  iapply (wp_k c 0 _ _ _ rfl) $$ Hkk; iintro Hkk
  iapply (wp_load 𝒱₀ (c : Thread nD τ) none Set.univ (m := Memref.whole cc0_scratch1) (Finset.subset_univ _)) $$ Ht; iintro Ht
  iapply (wp_kvt_store c _ _ _ _) $$ Ht; iintro Ht
  iapply (wp_v c 0 _ _ _ rfl) $$ Hvv; iintro Hvv
  iapply (wp_load 𝒱₀ (c : Thread nD τ) none Set.univ (m := Memref.whole cc0_scratch1) (Finset.subset_univ _)) $$ Ht; iintro Ht
  iapply (wp_kvt_store c _ _ _ _) $$ Ht; iintro Ht
  iapply (wp_k c 1 _ _ _ rfl) $$ Hkk; iintro Hkk
  iapply (wp_load 𝒱₀ (c : Thread nD τ) none Set.univ (m := Memref.whole cc0_scratch1) (Finset.subset_univ _)) $$ Ht; iintro Ht
  iapply (wp_kvt_store c _ _ _ _) $$ Ht; iintro Ht
  iapply (wp_v c 1 _ _ _ rfl) $$ Hvv; iintro Hvv
  iapply (wp_load 𝒱₀ (c : Thread nD τ) none Set.univ (m := Memref.whole cc0_scratch1) (Finset.subset_univ _)) $$ Ht; iintro Ht
  iapply (wp_kvt_store c _ _ _ _) $$ Ht; iintro Ht
  ihave Ht := (Entails.of_eq (congrArg (fun X => (((c : Thread nD τ).loc cc0_scratch1) ↦{fullShare} X : sProp 𝕄))
      (kvt_stored m ρ c f7 _ _ _ _ inb_S2x2x16x128x64_S1x1x16x128x64_0_0_0_0_0 inb_S2x2x16x128x64_S1x1x16x128x64_0_1_0_0_0
        inb_S2x2x16x128x64_S1x1x16x128x64_1_0_0_0_0 inb_S2x2x16x128x64_S1x1x16x128x64_1_1_0_0_0 rfl rfl rfl rfl))) $$ Ht
  -- its own chunk
  iapply (wp_x c 0 _ _ _ rfl) $$ Hx; iintro Hx
  iapply (wp_x c 1 _ _ _ rfl) $$ Hx; iintro Hx
  iapply (wp_slab m ρ c c fullShare.left.left _ _ (k0_off6_eq c)) $$ Hc; iintro Hc
  iapply (wp_heads m ρ c 0 0 c _ _ (k0_off7_eq c)) $$ Ht; iintro Ht
  iapply (wp_heads m ρ c 0 1 c _ _ (k0_off8_eq c)) $$ Ht; iintro Ht
  iapply (wp_heads m ρ c 1 0 c _ _ (k0_off9_eq c)) $$ Ht; iintro Ht
  iapply (wp_heads m ρ c 1 1 c _ _ (k0_off10_eq c)) $$ Ht; iintro Ht
  -- the chunk of the device 3 on
  iapply (wp_recv m ρ K c (pr c 2) (pr_ne c 2) _ (recvQ_of (pr c 2) _ _ (k0_off3_eq c 2)) _) $$ [HcR2 HO HaR2]
  · isplitr; · iexact HR
    isplitl [HcR2]; · iexact HcR2
    isplitl [HO]; · iexact HO
    iexact HaR2
  iintro ⟨HO, HaR2, Hp2⟩
  iapply (wp_slab m ρ c (pr c 2) fullShare _ _ (k0_off12_eq c 2)) $$ Hp2; iintro Hp2
  iapply (wp_heads m ρ c 0 0 (pr c 2) _ _ (k0_off13_eq c 2)) $$ Ht; iintro Ht
  iapply (wp_heads m ρ c 0 1 (pr c 2) _ _ (k0_off14_eq c 2)) $$ Ht; iintro Ht
  iapply (wp_heads m ρ c 1 0 (pr c 2) _ _ (k0_off15_eq c 2)) $$ Ht; iintro Ht
  iapply (wp_heads m ρ c 1 1 (pr c 2) _ _ (k0_off16_eq c 2)) $$ Ht; iintro Ht
  -- the chunk of the device 1 on
  iapply (wp_recv m ρ K c (pr c 0) (pr_ne c 0) _ (recvQ_of (pr c 0) _ _ (k0_off3_eq c 0)) _) $$ [HcR0 HO HaR0]
  · isplitr; · iexact HR
    isplitl [HcR0]; · iexact HcR0
    isplitl [HO]; · iexact HO
    iexact HaR0
  iintro ⟨HO, HaR0, Hp0⟩
  iapply (wp_slab m ρ c (pr c 0) fullShare _ _ (k0_off12_eq c 0)) $$ Hp0; iintro Hp0
  iapply (wp_heads m ρ c 0 0 (pr c 0) _ _ (k0_off13_eq c 0)) $$ Ht; iintro Ht
  iapply (wp_heads m ρ c 0 1 (pr c 0) _ _ (k0_off14_eq c 0)) $$ Ht; iintro Ht
  iapply (wp_heads m ρ c 1 0 (pr c 0) _ _ (k0_off15_eq c 0)) $$ Ht; iintro Ht
  iapply (wp_heads m ρ c 1 1 (pr c 0) _ _ (k0_off16_eq c 0)) $$ Ht; iintro Ht
  -- the chunk of the device 2 on
  iapply (wp_recv m ρ K c (pr c 1) (pr_ne c 1) _ (recvQ_of (pr c 1) _ _ (k0_off3_eq c 1)) _) $$ [HcR1 HO HaR1]
  · isplitr; · iexact HR
    isplitl [HcR1]; · iexact HcR1
    isplitl [HO]; · iexact HO
    iexact HaR1
  iintro ⟨HO, HaR1, Hp1⟩
  iapply (wp_slab m ρ c (pr c 1) fullShare _ _ (k0_off12_eq c 1)) $$ Hp1; iintro Hp1
  iapply (wp_heads m ρ c 0 0 (pr c 1) _ _ (k0_off13_eq c 1)) $$ Ht; iintro Ht
  iapply (wp_heads m ρ c 0 1 (pr c 1) _ _ (k0_off14_eq c 1)) $$ Ht; iintro Ht
  iapply (wp_heads m ρ c 1 0 (pr c 1) _ _ (k0_off15_eq c 1)) $$ Ht; iintro Ht
  iapply (wp_heads m ρ c 1 1 (pr c 1) _ _ (k0_off16_eq c 1)) $$ Ht; iintro Ht
  -- the result
  iapply (wp_load 𝒱₀ (c : Thread nD τ) none Set.univ (m := Memref.whole cc0_stg5_0) (Finset.subset_univ _)) $$ Hout; iintro Hout
  iapply (wp_out_store c _ _ _ _) $$ Hout; iintro Hout
  iapply (wp_load 𝒱₀ (c : Thread nD τ) none Set.univ (m := Memref.whole cc0_stg5_0) (Finset.subset_univ _)) $$ Hout; iintro Hout
  iapply (wp_out_store c _ _ _ _) $$ Hout; iintro Hout
  ihave Hout := (Entails.of_eq (congrArg (fun X => (((c : Thread nD τ).loc cc0_stg5_0) ↦{fullShare} X : sProp 𝕄))
      (out_stored_of m ρ c g5 _ _ (pay_batch0 m ρ c) (pay_batch1 m ρ c) inb_S2x128x512_S1x128x512_0_0_0 inb_S2x128x512_S1x128x512_1_0_0))) $$ Hout
  -- the copies have been read
  iapply (wp_sent m ρ K c 2 _ (sendQ_of (pr c 2) _ _ (k0_off3_eq c 2)) _) $$ [HcS2 HO HaS2]
  · isplitr; · iexact HR
    isplitl [HcS2]; · iexact HcS2
    isplitl [HO]; · iexact HO
    iexact HaS2
  iintro ⟨HO, HaS2, Hs2⟩
  iapply (wp_sent m ρ K c 0 _ (sendQ_of (pr c 0) _ _ (k0_off3_eq c 0)) _) $$ [HcS0 HO HaS0]
  · isplitr; · iexact HR
    isplitl [HcS0]; · iexact HcS0
    isplitl [HO]; · iexact HO
    iexact HaS0
  iintro ⟨HO, HaS0, Hs0⟩
  iapply (wp_sent m ρ K c 1 _ (sendQ_of (pr c 1) _ _ (k0_off3_eq c 1)) _) $$ [HcS1 HO HaS1]
  · isplitr; · iexact HR
    isplitl [HcS1]; · iexact HcS1
    isplitl [HO]; · iexact HO
    iexact HaS1
  iintro ⟨HO, HaS1, Hs1⟩
  -- the cells close
  imod (close_at m ρ K (c, none) (0 + 1) (duties_later m ρ _)) $$ [HaB] with HzB
  · isplitr; · iexact HR
    iexact HaB
  imod (close_at m ρ K (c, some (true, pr c 2)) (0 + 1) (duties_later m ρ _)) $$ [HaR2] with HzR2
  · isplitr; · iexact HR
    iexact HaR2
  imod (close_at m ρ K (c, some (true, pr c 0)) (0 + 1) (duties_later m ρ _)) $$ [HaR0] with HzR0
  · isplitr; · iexact HR
    iexact HaR0
  imod (close_at m ρ K (c, some (true, pr c 1)) (0 + 1) (duties_later m ρ _)) $$ [HaR1] with HzR1
  · isplitr; · iexact HR
    iexact HaR1
  imod (close_at m ρ K (c, some (true, c)) 0 (duties_recv_self m ρ c)) $$ [HaRc] with HzRc
  · isplitr; · iexact HR
    iexact HaRc
  imod (close_at m ρ K (c, some (false, pr c 2)) (0 + 1) (duties_later m ρ _)) $$ [HaS2] with HzS2
  · isplitr; · iexact HR
    iexact HaS2
  imod (close_at m ρ K (c, some (false, pr c 0)) (0 + 1) (duties_later m ρ _)) $$ [HaS0] with HzS0
  · isplitr; · iexact HR
    iexact HaS0
  imod (close_at m ρ K (c, some (false, pr c 1)) (0 + 1) (duties_later m ρ _)) $$ [HaS1] with HzS1
  · isplitr; · iexact HR
    iexact HaS1
  imod (close_at m ρ K (c, some (false, c)) 0 (duties_send_self m ρ c)) $$ [HaSc] with HzSc
  · isplitr; · iexact HR
    iexact HaSc
  rw [wp_ret]; imodintro
  iapply Hk
  unfold bodyPost Φ₁ Dat.owesAt Pipeline.owesWithin
  rw [show (dats m ρ 0 c).owed t0_0.succ = 0 from rfl, comb_slots c, bigSep_cells c]
  isplitl [Hc Hs0 Hs1 Hs2 Hp2 Hp0 Hp1 Ht HzB HzR2 HzR0 HzR1 HzRc HzS2 HzS0 HzS1 HzSc]
  · isplitl [Hc Hs0 Hs1 Hs2 Hp2 Hp0 Hp1]
    · isplitl [Hc Hs0 Hs1 Hs2]
      · iapply (show _ ⊢ _ from (slot_shares c c (combAt m ρ)).2)
        isplitl [Hc Hs0]
        · isplitl [Hc] <;> iassumption
        isplitl [Hs1] <;> iassumption
      isplitl [Hp2]; · iexact Hp2
      isplitl [Hp0] <;> iassumption
    isplitl [Ht]; · iexact Ht
    isplitl [HzB]; · iexact HzB
    isplitl [HzR2]; · iexact HzR2
    isplitl [HzR0]; · iexact HzR0
    isplitl [HzR1]; · iexact HzR1
    isplitl [HzRc]; · iexact HzRc
    isplitl [HzS2]; · iexact HzS2
    isplitl [HzS0]; · iexact HzS0
    isplitl [HzS1] <;> iassumption
  isplitl [HO]
  · iexists _
    isplitr
    rotate_left
    · iexact HO
    · ipureintro; exact fun _ _ => Or.inl trivial
  isplitl [Hx]
  · iexists _; isplitr; · (ipureintro; rfl)
    iexact Hx
  isplitl [Hwq]
  · iexists _; isplitr; · (ipureintro; rfl)
    iexact Hwq
  isplitl [Hkk]
  · iexists _; isplitr; · (ipureintro; rfl)
    iexact Hkk
  isplitl [Hvv]
  · iexists _; isplitr; · (ipureintro; rfl)
    iexact Hvv
  isplitl [Hwo]
  · iexists _; isplitr; · (ipureintro; rfl)
    iexact Hwo
  iexists _; isplitr; · (ipureintro; rfl)
  iexact Hout

end Cert.Exchange

end
-- ==== Proof.Launch.lean ====
/-
# The launch of the exchange

The cells' invariants are allocated from the launch's zero counters, the duty tokens — minted at each device's own cells — go
to the devices that pay them, and each device's launch credits are what the others owe it at the start.
-/
module

public import proofs.«01_k».proof.Proof.Body
public import Idealize.ShloMosaic.Lib.Pipeline.CollectiveSegs

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

set_option maxRecDepth 4000 in
def bodyPre' (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

set_option maxRecDepth 4000 in
/-- The body run at the pipeline's one point. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3)
    (fun _ => bodyPost m ρ c)
  unfold bodyPre' Φ₀ start
  iintro ⟨⟨⟨⟨%K, Hg⟩, Hcr, Hlev⟩, H6, H7⟩, Hrest⟩
  iapply (sound_body m ρ K c fun _ => bodyPost m ρ c)
  unfold bodyPre
  isplitr []
  · isplitl [Hg Hcr Hlev H6 H7]
    · isplitl [Hg]; · iexact Hg
      isplitl [Hcr]; · iexact Hcr
      isplitl [Hlev]; · iexact Hlev
      isplitl [H6] <;> iassumption
    iexact Hrest
  · iintro H; iexact H

/-! ## Cells and tokens -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Option (Bool × Fin 4) → SemLoc sig) := by
  intro i j h
  rcases i with _ | ⟨_ | _, p⟩ <;> rcases j with _ | ⟨_ | _, q⟩
  · rfl
  · exact absurd h.symm (send_ne_bar q)
  · exact absurd h.symm (recv_ne_bar q)
  · exact absurd h (send_ne_bar p)
  · rw [send_inj p q h]
  · exact absurd h (send_ne_recv p q)
  · exact absurd h (recv_ne_bar p)
  · exact absurd h.symm (send_ne_recv q p)
  · rw [recv_inj p q h]

theorem kcell_injective : Function.Injective (kcell : Cells → GSem nD τ sig) := by
  rintro ⟨c, i⟩ ⟨c', i'⟩ h
  have h1 : c = c' := congrArg (fun g : GSem nD τ sig => g.1.1) h
  have h2 : csem i = csem i' := congrArg Prod.snd h
  rw [h1, csem_injective h2]

/-- All the cells of the exchange. -/
def allCells : Finset (GSem nD τ sig) := Finset.univ.map ⟨kcell, kcell_injective⟩

/-- The cell of device `c` that a token is minted at: with `pr c r`, its barrier, receive or send cell. -/
abbrev tokCell (c : Dev nD) (r : Fin 3) (w : Fin 3) : Option (Bool × Fin 4) := match w with
  | 0 => none | 1 => some (true, pr c r) | 2 => some (false, pr c r)
/-- The tokens as minted: (device, place of the peer, which cell). -/
abbrev tokOf (x : Dev nD × (Fin 3 × Fin 3)) : GSem nD τ sig × ℕ × Fin 4 := (kcell (x.1, tokCell x.1 x.2.1 x.2.2), 0, pr x.1 x.2.1)

theorem tokCell_kind (c : Dev nD) (r r' w w' : Fin 3) (h : tokCell c r w = tokCell c r' w') : w = w' := by
  revert c r r' w w'; decide

theorem tokOf_injective : Function.Injective tokOf := by
  rintro ⟨c, r, w⟩ ⟨c', r', w'⟩ h
  have h1 := kcell_injective (congrArg Prod.fst h)
  have hc : c = c' := congrArg Prod.fst h1
  subst hc
  have hr : r = r' := pr_inj c r r' (congrArg (fun x : GSem nD τ sig × ℕ × Fin 4 => x.2.2) h)
  subst hr
  rw [tokCell_kind c r r w w' (congrArg Prod.snd h1)]
def allToks : Finset (GSem nD τ sig × ℕ × Fin 4) := Finset.univ.map ⟨tokOf, tokOf_injective⟩

def u₀ : UU :=
  (initOf (Pipeline.cells cfgs cellOf_inj) (Pipeline.launchToks cfgs cellOf_inj), initOf allCells allToks)

/-- The tokens of device `c`'s own cells towards the device `r + 1` places on. -/
def ownTok (c : Dev nD) (r : Fin 3) : sProp 𝕄 :=
  iprop(dutyTok ER (barCell c) 0 (pr c r) ∗ dutyTok ER (recvCell c (pr c r)) 0 (pr c r) ∗ dutyTok ER (sendCell c (pr c r)) 0 (pr c r))

/-- What the launch deals device `c`. -/
def G (c : Dev nD) : sProp 𝕄 :=
  iprop((bigSep Finset.univ fun i => roundState ER (Rd m ρ) (kcell (c, i)) 0)
    ∗ (bigSep Finset.univ fun i => iprop(atPos ER (kcell (c, i)) 0 ∅ 0 ∗ reached ER (kcell (c, i)) 0)) ∗ bigSep Finset.univ fun r => ownTok c r)

/-- What the global step makes of it. -/
def G' (c : Dev nD) : sProp 𝕄 := iprop(∃ K, records m ρ K ∗ linear c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun i => Φ (kcell (c, i)) := by
    unfold allCells; rw [bigSep_map, bigSep_univ_prod]; rfl
  have hT : bigSep allToks (fun x => (dutyTok ER x.1 x.2.1 x.2.2 : sProp 𝕄)) = bigSep Finset.univ fun c : Dev nD => bigSep Finset.univ fun r => ownTok c r := by
    unfold allToks; rw [bigSep_map, bigSep_univ_prod]
    refine bigSep_congr fun c _ => ?_
    rw [bigSep_univ_prod]
    refine bigSep_congr fun r _ => ?_
    rw [bigSep_fin3]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The invariants -/

omit [FloatOps F] in
/-- The kernel's own eight semaphores, -/
theorem ownSems0_eq (c : Dev nD) : (Pipeline.ownSems0 (Ix := Unit) (Name := ℕ) (U := UU) (Lvl := ℕ) (Val := Elt F) (τ := τ) osem c : sProp 𝕄)
    = iprop(semVal (recvCell c (pr c 2)) 0 ∗ semVal (recvCell c (pr c 0)) 0 ∗ semVal (recvCell c (pr c 1)) 0 ∗ semVal (recvCell c c) 0
      ∗ semVal (sendCell c (pr c 2)) 0 ∗ semVal (sendCell c (pr c 0)) 0 ∗ semVal (sendCell c (pr c 1)) 0 ∗ semVal (sendCell c c) 0) := by
  rw [Pipeline.ownSems0_eq_of_list c osem [(true, pr c 2), (true, pr c 0), (true, pr c 1), (true, c),
    (false, pr c 2), (false, pr c 0), (false, pr c 1), (false, c)] (by revert c; decide) (by revert c; decide)]; rfl
omit [FloatOps F] in
/-- and the barrier semaphore, the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- Together they are the nine counters of the device's cells. -/
theorem sems0_eq (c : Dev nD) :
    (bigSep Finset.univ fun i => semVal (kcell (c, i)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_cells c]

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ bigSep Finset.univ fun r => ownTok c r) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun i => semVal (kcell (c, i)) 0) ∗ bigSep Finset.univ fun i => roundState ER (Rd m ρ) (kcell (c, i)) 0)
      ⊢ (|={Set.univ}=> bigSep Finset.univ fun i => iprop(∃ κ : ℕ, cellInv ER (Rd m ρ) κ (kcell (c, i))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Seen from the other end: device `c` and its peer `r` become the peer and `c`'s place from it. -/
def across : Dev nD × Fin 3 ≃ Dev nD × Fin 3 :=
  Function.Involutive.toPerm (fun x => (pr x.1 x.2, bk x.2)) fun x => Prod.ext (pr_bk x.1 x.2) (bk_bk x.2)

omit [FloatOps F] in
/-- The barrier and receive tokens go to the devices that signal and copy; the send tokens stay. -/
theorem toks_across : (bigSep Finset.univ fun c : Dev nD => bigSep Finset.univ fun r => (ownTok c r : sProp 𝕄))
    ⊢ bigSep Finset.univ fun c : Dev nD => bigSep Finset.univ fun r => payTok c r := by
  unfold ownTok payTok
  rw [← bigSep_univ_prod (fun x : Dev nD × Fin 3 => iprop(dutyTok ER (barCell x.1) 0 (pr x.1 x.2) ∗ dutyTok ER (recvCell x.1 (pr x.1 x.2)) 0 (pr x.1 x.2)
      ∗ (dutyTok ER (sendCell x.1 (pr x.1 x.2)) 0 (pr x.1 x.2) : sProp 𝕄))),
    ← bigSep_univ_prod (fun x : Dev nD × Fin 3 => iprop(dutyTok ER (barCell (pr x.1 x.2)) 0 x.1 ∗ dutyTok ER (recvCell (pr x.1 x.2) x.1) 0 x.1
      ∗ (dutyTok ER (sendCell x.1 (pr x.1 x.2)) 0 (pr x.1 x.2) : sProp 𝕄))),
    bigSep_sep', bigSep_sep', bigSep_sep', bigSep_sep',
    bigSep_univ_equiv across (fun x : Dev nD × Fin 3 => (dutyTok ER (barCell x.1) 0 (pr x.1 x.2) : sProp 𝕄)),
    bigSep_univ_equiv across (fun x : Dev nD × Fin 3 => (dutyTok ER (recvCell x.1 (pr x.1 x.2)) 0 (pr x.1 x.2) : sProp 𝕄))]
  have h1 : (fun x : Dev nD × Fin 3 => (dutyTok ER (barCell (across x).1) 0 (pr (across x).1 (across x).2) : sProp 𝕄))
      = fun x => dutyTok ER (barCell (pr x.1 x.2)) 0 x.1 := funext fun x => by
    show dutyTok ER (barCell (pr x.1 x.2)) 0 (pr (pr x.1 x.2) (bk x.2)) = _; rw [pr_bk]
  have h2 : (fun x : Dev nD × Fin 3 => (dutyTok ER (recvCell (across x).1 (pr (across x).1 (across x).2)) 0 (pr (across x).1 (across x).2) : sProp 𝕄))
      = fun x => dutyTok ER (recvCell (pr x.1 x.2) x.1) 0 x.1 := funext fun x => by
    show dutyTok ER (recvCell (pr x.1 x.2) (pr (pr x.1 x.2) (bk x.2))) 0 (pr (pr x.1 x.2) (bk x.2)) = _; rw [pr_bk]
  rw [h1, h2]

theorem ghost_intro (K : Cells → ℕ) (c : Dev nD) : iprop(records m ρ K ∗ linear c) ⊢ G' m ρ c := by
  unfold G'; iintro H; iexists K; iexact H

theorem regroup :
    (bigSep Finset.univ fun c : Dev nD => iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ bigSep Finset.univ fun r => ownTok c r) : sProp 𝕄)
      ⊢ bigSep Finset.univ (G' m ρ) := by
  rw [bigSep_sep', bigSep_sep', ← bigSep_univ_prod (fun ck : Cells => iprop(∃ κ : ℕ, cellInv ER (Rd m ρ) κ (kcell ck))),
    bigSep_congr (s := Finset.univ) (fun (c : Dev nD) _ => bigSep_sep' Finset.univ (fun i : Option (Bool × Fin 4) => (atPos ER (kcell (c, i)) 0 ∅ 0 : sProp 𝕄)) (fun i => reached ER (kcell (c, i)) 0)),
    bigSep_sep', ← bigSep_univ_prod (fun ck : Cells => (reached ER (kcell ck) 0 : sProp 𝕄))]
  iintro ⟨HI, ⟨Hat, #HR⟩, Htok⟩
  ihave HK := (BI.bigSep_exists_pi Finset.univ (fun (ck : Cells) (κ : ℕ) => (cellInv ER (Rd m ρ) κ (kcell ck) : sProp 𝕄))) $$ HI
  icases HK with ⟨%K, #HI⟩
  ihave Htk := (toks_across (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun i : Option (Bool × Fin 4) => (atPos ER (kcell (c, i)) 0 ∅ 0 : sProp 𝕄))
      (fun c => bigSep Finset.univ fun r => payTok c r)).symm)
    isplitl [Hat]; · iexact Hat
    iexact Htk

/-- The global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem kcell_eq_iff {a b : Cells} : kcell a = kcell b ↔ a = b := ⟨fun h => kcell_injective h, fun h => h ▸ rfl⟩

/-- One unit, at a cell. -/
theorem tally_cell (a b : Cells) (n : ℕ) : (tallyAt (kcell a) () n : CellTallies nD τ sig Unit) (kcell b) () = if b = a then n else 0 := by
  rw [tallyAt_apply]; simp only [kcell_eq_iff, and_true]

/-- What device `d` owes a cell at launch, -/
theorem owed_at (d : Dev nD) (b : Cells) : O₀ d (kcell b) ()
    = ((if b = (pr d 1, some (true, d)) then N else 0) + (if b = (pr d 0, some (true, d)) then N else 0) + (if b = (pr d 2, some (true, d)) then N else 0))
      + (if b = (pr d 1, none) then 1 else 0) + (if b = (pr d 0, none) then 1 else 0) + (if b = (pr d 2, none) then 1 else 0) := by
  unfold O₀ O₁ O₂ O₃ O₄ O₅
  simp only [Pi.add_apply, Finsupp.add_apply]
  rw [← tally_cell (pr d 1, some (true, d)), ← tally_cell (pr d 0, some (true, d)), ← tally_cell (pr d 2, some (true, d)),
    ← tally_cell (pr d 1, none), ← tally_cell (pr d 0, none), ← tally_cell (pr d 2, none)]

/-- as counts of signals and of slots: to a barrier cell, one signal from every other device, -/
theorem owed_bar (d c : Dev nD) : O₀ d (barCell c) () = if d = c then 0 else 1 := by
  refine (owed_at d (c, none)).trans ?_
  rw [if_neg (fun h => by cases congrArg Prod.snd h), if_neg (fun h => by cases congrArg Prod.snd h), if_neg (fun h => by cases congrArg Prod.snd h)]
  revert d c; decide
/-- to a receive cell, the slot of the device it is for. -/
theorem owed_recv (d c : Dev nD) (r : Fin 3) : O₀ d (recvCell c (pr c r)) () = if d = pr c r then N else 0 := by
  refine (owed_at d (c, some (true, pr c r))).trans ?_
  rw [if_neg (c := _ = (pr d 1, none)) (fun h => by cases congrArg Prod.snd h), if_neg (c := _ = (pr d 0, none)) (fun h => by cases congrArg Prod.snd h),
    if_neg (c := _ = (pr d 2, none)) (fun h => by cases congrArg Prod.snd h)]
  have key : ∀ (d c : Dev nD) (r : Fin 3),
      ((if ((c, some (true, pr c r)) : Cells) = (pr d 1, some (true, d)) then 1 else 0) + (if ((c, some (true, pr c r)) : Cells) = (pr d 0, some (true, d)) then 1 else 0)
        + (if ((c, some (true, pr c r)) : Cells) = (pr d 2, some (true, d)) then 1 else 0)) = if d = pr c r then 1 else 0 := by decide
  have hN (p : Prop) [Decidable p] : (if p then N else 0) = (if p then 1 else 0) * N := by split <;> simp
  rw [hN, hN, hN, hN, ← key d c r, Nat.add_mul, Nat.add_mul]; simp only [Nat.add_zero]

omit [FloatOps F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

omit [FloatOps F] in
theorem launch_recv (c : Dev nD) (r : Fin 3) :
    tallyOn (recvCell c (pr c r)) (launchCredit (Pipeline.owing O₀) 0 (recvCell c (pr c r))) = (tallyAt (recvCell c (pr c r)) () N : CellTallies nD τ sig Unit) := by
  unfold tallyAt; refine congrArg _ (Finsupp.ext fun u => ?_); cases u
  rw [Pipeline.launchCredit_owing, Finsupp.single_eq_same, Finset.sum_congr rfl fun d _ => owed_recv d c r, Finset.sum_ite_eq' Finset.univ (pr c r) fun _ => N,
    if_pos (Finset.mem_univ _)]

omit [FloatOps F] in
/-- A device's launch credits. -/
theorem creds (c : Dev nD) : (Pipeline.launchCred O₀ c : sProp 𝕄) ⊢ credits c := by
  unfold Pipeline.launchCred credits
  refine (bigSep_subset (Finset.subset_univ ([SemLoc.reg barS, .dma (recvQ (pr c 0)), .dma (recvQ (pr c 1)), .dma (recvQ (pr c 2))] : List (SemLoc sig)).toFinset)).trans ?_
  rw [bigSep_eq_bigSepL_of_eq [SemLoc.reg barS, .dma (recvQ (pr c 0)), .dma (recvQ (pr c 1)), .dma (recvQ (pr c 2))] rfl (by revert c; decide),
    bigSepL_cons_cons, bigSepL_cons_cons, bigSepL_cons_cons, bigSepL_singleton, launch_bar, launch_recv c 0, launch_recv c 1, launch_recv c 2, bigSep_fin3]; exact Entails.refl _

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq]
  unfold Φ₁
  rw [sems0_eq]
  iintro ⟨H6, H7, Hu, Ho⟩
  isplitl [Hu]; · iexact Hu
  isplitl [Ho]; · iexact Ho
  isplitl [H6]
  · iexists (combAt m ρ); iexact H6
  · iexists (kvtAt m ρ c); iexact H7

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The window arrays after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the four devices' kernels ends,
    each window's array then holds what the body's run left it, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays are as they were. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.Exchange

end
-- ==== Proof.Frames.lean ====
/-
# The frames

Both programs have one text, so the run at any float values gives both frames; the reference's is its own run.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run

@[expose] public section

noncomputable section

namespace Cert.Exchange

open Idealize.ShloMosaic Idealize.SL.Sem
open Idealize.ShloMosaic.TcCoe

section Post
open Cert.KernelIdeal Cert.KernelIdeal.Gen
variable {F : FTy → Type} [FloatOps F]
variable (m : (ℓ : Loc nD τ sig) → Buf (Elt F) ℓ) (ρ : Dev nD → PrngReg)

/-- After the run every argument is as it was. -/
theorem args_kept (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c 0).trans (finalA_in m ρ c 0 rfl), (h c 1).trans (finalA_in m ρ c 1 rfl), (h c 2).trans (finalA_in m ρ c 2 rfl),
    (h c 3).trans (finalA_in m ρ c 3 rfl), (h c 4).trans (finalA_in m ρ c 4 rfl)⟩

/-- From any memory the kernel ends, its arguments unchanged and every counter zero. -/
theorem frame_any : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => And.intro (fun c => args_kept m ρ r h.1 c) h.2) (run_main m ρ)

end Post

/-- So does the kernel over the reals, -/
theorem frame_kernelIdeal : Cert.quiescent_KernelIdeal := fun m ρ _ => frame_any (F := Ideal) m ρ

/-- and the reference, which has no counters. -/
theorem frame_referenceIdeal : Cert.quiescent_ReferenceIdeal := fun m ρ _ =>
  (θ_run Cert.ReferenceIdeal.defs _ _).mono (fun r h => And.intro (fun c => (h c).2) (sem_eq_zero_of_no_sems (by decide) r.2))
    (Cert.ReferenceIdeal.Value.run (F := Ideal) m ρ)

/-- The two programs' body tables are one. -/
theorem bodies_eq : Cert.Kernel.defs₀ (F := Bits) = Cert.KernelIdeal.defs₀ (F := Bits) :=
  congrArg Defs.onTc (funext fun l => funext fun x => match l, x with
    | 0, (_, _) => rfl)

/-- So are their tables of all functions. -/
theorem defs_eq : Cert.Kernel.defs (F := Bits) = Cert.KernelIdeal.defs (F := Bits) :=
  congrArg (Pipeline.defs Cert.KernelIdeal.pcfgs) bodies_eq

/-- And so does the kernel at the machine's floats. -/
theorem frame_kernel : Cert.quiescent_Kernel := fun m ρ _ => by
  rw [defs_eq]
  exact frame_any (F := Bits) m ρ

end Cert.Exchange

end
-- ==== Proof.Attention.lean ====
/-
# Masked attention over the extended reals

What both programs compute of one row, and the laws of extended reals that make their two orders of work one.
-/
module

public import Idealize.ShloMosaic.Lib.Pointwise

@[expose] public section

noncomputable section

namespace Cert.Exchange

open Idealize.ShloMosaic

/-! ## One row -/

/-- Whether key row `j` is seen from query row `r`: the same block of 64, or the same block modulo four. -/
def maskN (r j : ℕ) : BitVec 1 := if r / 64 = j / 64 ∨ j / 64 % 4 = r / 64 % 4 then 1#1 else 0#1

/-- Whether a row of the mask has an entry. -/
def keepOf (M : Fin 128 → BitVec 1) : BitVec 1 := Finset.univ.fold IntOp.ori 0#1 M

/-- A row's scores where its mask has an entry, −10⁹ elsewhere; -/
def masked (M : Fin 128 → BitVec 1) (s : Fin 128 → EReal) (j : Fin 128) : EReal := Scalar.select (M j) (s j) (Ideal.ofBits .f32 0xCE6E6B28#32)

/-- their exponentials, the largest score taken off; -/
def expo (M : Fin 128 → BitVec 1) (s : Fin 128 → EReal) (j : Fin 128) : EReal :=
  Ideal.exp (masked M s j - Finset.univ.fold max (Ideal.ofBits .f32 0xFF800000#32) (masked M s))

/-- the weights, all zero where the mask's row is empty; -/
def weight (M : Fin 128 → BitVec 1) (s : Fin 128 → EReal) (j : Fin 128) : EReal :=
  Scalar.select (keepOf M) (Ideal.div (expo M s j) (Scalar.select (keepOf M) (∑ k, expo M s k) 1)) 0

/-- and one number of the row's attention, the values weighted. -/
def attend (M : Fin 128 → BitVec 1) (s v : Fin 128 → EReal) : EReal := ∑ j, weight M s j * v j

/-! ## A row is kept by the largest of its entries too -/

/-- A row is kept exactly when an entry of it is set. -/
theorem keepOf_one (M : Fin 128 → BitVec 1) : keepOf M = 1#1 ↔ ∃ j, M j = 1#1 := by
  have h := Finset.fold_op_rel_iff_or (op := IntOp.ori (w := 1)) (r := fun _ y => y = 1#1) (f := M) (b := 0#1) (s := Finset.univ) (by decide) (c := 0#1)
  exact h.trans (by simp)

/-- The largest of the entries, read as ones and zeros, is over zero exactly when the row is kept. -/
theorem keep_max (M : Fin 128 → BitVec 1) :
    Ideal.cmp .ogt (Finset.univ.fold max (Ideal.ofBits .f32 0xFF800000#32) fun j => Scalar.select (M j) (1 : EReal) 0) 0 = keepOf M := by
  have hb : Ideal.ofBits .f32 0xFF800000#32 = ⊥ := by simp [Ideal.ofBits, Ideal.ieee]
  have hlt : (0 : EReal) < (Finset.univ.fold max (Ideal.ofBits .f32 0xFF800000#32) fun j => Scalar.select (M j) (1 : EReal) 0) ↔ ∃ j, M j = 1#1 := by
    rw [Finset.lt_fold_max, hb]
    constructor
    · rintro (h | ⟨j, -, h⟩)
      · exact absurd h (by simp)
      · by_contra hn
        rw [Scalar.select_of_ne_one fun e => hn ⟨j, e⟩] at h
        exact lt_irrefl _ h
    · rintro ⟨j, e⟩
      exact .inr ⟨j, Finset.mem_univ j, by rw [Scalar.select_of_eq_one e]; exact zero_lt_one⟩
  have two : ∀ a b : BitVec 1, (a = 1#1 ↔ b = 1#1) → a = b := by decide
  refine two _ _ (Iff.trans ?_ (hlt.trans (keepOf_one M).symm))
  show BitVec.ofBool (decide _) = 1#1 ↔ _
  have ofB : ∀ t : Bool, BitVec.ofBool t = 1#1 ↔ t = true := by decide
  rw [ofB, decide_eq_true_iff]

/-! ## A scale moved through two sums -/

/-- A number that is not negative and finite goes out of a sum. -/
theorem sum_scaled {ι : Type*} (s : Finset ι) (f : ι → EReal) {κ : EReal} (h0 : 0 ≤ κ) (ht : κ ≠ ⊤) : ∑ t ∈ s, f t * κ = (∑ t ∈ s, f t) * κ := by
  classical
  induction s using Finset.induction_on with
  | empty => simp
  | insert a s ha ih => rw [Finset.sum_insert ha, Finset.sum_insert ha, ih, EReal.right_distrib_of_nonneg_of_ne_top h0 ht]

/-- Scaling the weights of the queries is scaling the score. -/
theorem score_scaled {m n : ℕ} (x : Fin m → EReal) (w : Fin m → Fin n → EReal) (k : Fin n → EReal) {κ : EReal} (h0 : 0 ≤ κ) (ht : κ ≠ ⊤) :
    ∑ d, (∑ t, x t * (w t d * κ)) * k d = (∑ d, (∑ t, x t * w t d) * k d) * κ := by
  rw [← sum_scaled _ _ h0 ht]
  refine Finset.sum_congr rfl fun d _ => ?_
  rw [mul_right_comm, ← sum_scaled _ _ h0 ht]
  simp only [mul_assoc]

/-- The two formats' words for an eighth are one number, not negative and finite. -/
theorem eighth_bf16 : Ideal.ofBits .bf16 0x3E00#16 = (((1 : ℝ) / 8 : ℝ) : EReal) := by
  simp [Ideal.ofBits, Ideal.ieee, -EReal.coe_mul]; norm_num
theorem eighth_f32 : Ideal.ofBits .f32 0x3E000000#32 = (((1 : ℝ) / 8 : ℝ) : EReal) := by
  simp [Ideal.ofBits, Ideal.ieee, -EReal.coe_mul]; norm_num
theorem eighth_nonneg : (0 : EReal) ≤ (((1 : ℝ) / 8 : ℝ) : EReal) := by
  exact_mod_cast (by norm_num : (0 : ℝ) ≤ 1 / 8)

/-! ## 1024 columns as four times 256 -/

/-- A sum over 1024 columns is the sum over four chunks of 256. -/
theorem sum_chunks (f : Fin 1024 → EReal) : ∑ L, f L = ∑ p : Fin 4, ∑ l : Fin 256, f ⟨256 * p.val + l.val, by omega⟩ := by
  rw [← Fintype.sum_prod_type']
  refine (Fintype.sum_equiv (finProdFinEquiv (m := 4) (n := 256)) _ _ fun x => ?_).symm
  congr 1
  exact Fin.ext (by simp [finProdFinEquiv, Nat.add_comm])

end Cert.Exchange

end
-- ==== Proof.KernelMask.lean ====
/-
# The kernel's mask

The kernel computes the mask of its 128 query rows from its number in the mesh; it is `maskN` of the rows' places in the whole array.
-/
module

public import proofs.«01_k».proof.Proof.Contents
public import proofs.«01_k».proof.Proof.Attention

@[expose] public section

noncomputable section

namespace Cert.Exchange

open Cert.KernelIdeal Cert.KernelIdeal.Gen
open Idealize.ShloMosaic
open Idealize.ShloMosaic.TcCoe

/-- A device's number is its place in the mesh. -/
theorem dword_eq (c : Dev nD) : dword c = BitVec.ofNat 32 c.val := by
  revert c
  decide

/-- The block of a query row as the kernel finds it is that of its place in the whole array; -/
theorem pay7_at (c : Dev nD) (i j : Fin 128) : k0_pay7 (dword c) (ix2 i j) = BitVec.ofNat 32 ((128 * c.val + i.val) / 64) := by
  rw [dword_eq]
  pointwise [k0_pay7]
  clear j
  revert c i
  decide +kernel

/-- of a key row too. -/
theorem colBlock (j : Fin 128) :
    Scalar.select
      (IntOp.andi
        (IntOp.cmpi .ne (IntOp.subi (BitVec.setWidth 32 (IntOp.cmpi .sgt (BitVec.ofNat 32 j.val) 0#32)) (BitVec.setWidth 32 (IntOp.cmpi .slt (BitVec.ofNat 32 j.val) 0#32)))
          (Scalar.subi (Scalar.extui (Scalar.cmpi .sgt 64#32 0#32)) (Scalar.extui (Scalar.cmpi .slt 64#32 0#32))))
        (IntOp.cmpi .ne (IntOp.remsi .vector (BitVec.ofNat 32 j.val) 64#32) 0#32))
      (IntOp.subi (IntOp.divsi .vector (BitVec.ofNat 32 j.val) 64#32) 1#32) (IntOp.divsi .vector (BitVec.ofNat 32 j.val) 64#32)
      = BitVec.ofNat 32 (j.val / 64) := by
  revert j
  decide +kernel

/-- A block number's remainder by four as the kernel finds it. -/
abbrev rem4 (a : BitVec 32) : BitVec 32 :=
  Scalar.select
    (IntOp.andi
      (IntOp.xori (IntOp.cmpi .slt (IntOp.remsi .vector a (Scalar.select (Scalar.cmpi .eq 4#32 0#32) 1#32 4#32)) 0#32)
        (Scalar.cmpi .slt (Scalar.select (Scalar.cmpi .eq 4#32 0#32) 1#32 4#32) 0#32))
      (IntOp.cmpi .ne (IntOp.remsi .vector a (Scalar.select (Scalar.cmpi .eq 4#32 0#32) 1#32 4#32)) 0#32))
    (IntOp.addi (IntOp.remsi .vector a (Scalar.select (Scalar.cmpi .eq 4#32 0#32) 1#32 4#32)) (Scalar.select (Scalar.cmpi .eq 4#32 0#32) 1#32 4#32))
    (IntOp.remsi .vector a (Scalar.select (Scalar.cmpi .eq 4#32 0#32) 1#32 4#32))

/-- The kernel's test of two block numbers is the mask's. -/
theorem test_word (a b : Fin 8) :
    IntOp.ori (IntOp.cmpi .eq (BitVec.ofNat 32 a.val) (BitVec.ofNat 32 b.val)) (IntOp.cmpi .eq (rem4 (BitVec.ofNat 32 b.val)) (rem4 (BitVec.ofNat 32 a.val)))
      = if a.val = b.val ∨ b.val % 4 = a.val % 4 then 1#1 else 0#1 := by
  revert a b
  decide +kernel

/-- The kernel's mask is `maskN` at the rows' places in the whole array, -/
theorem maskAt_at (c : Dev nD) (i j : Fin 128) : maskAt c (ix3 0 i j) = maskN (128 * c.val + i.val) j.val := by
  have hc : c.val < 4 := c.isLt
  refine Eq.trans ?_ (test_word ⟨(128 * c.val + i.val) / 64, by omega⟩ ⟨j.val / 64, by omega⟩)
  pointwise [k0_pay11, k0_pay8, k0_pay9, k0_pay10, pay7_at, colBlock, rem4]

/-- and a row is kept by its largest entry exactly when it has one. -/
theorem keepAt_at (c : Dev nD) (i : Fin 128) : keepAt (F := Ideal) c (ix3 0 i 0) = keepOf fun j => maskN (128 * c.val + i.val) j.val := by
  refine Eq.trans ?_ (keep_max _)
  have hM := maskAt_at c i
  unfold keepAt
  generalize maskAt c = M at hM ⊢
  pointwise [k0_pay13, k0_pay12, Ideal.cmp, hM]

end Cert.Exchange

end
-- ==== Proof.KernelValue.lean ====
/-
# The kernel's result, element by element

Over the extended reals each weight block adds, to row `i` and column `n`, the masked attention of its four heads multiplied with
its rows of `Wo`.
-/
module

public import proofs.«01_k».proof.Proof.KernelMask

@[expose] public section

noncomputable section

namespace Cert.Exchange

open Cert.KernelIdeal Cert.KernelIdeal.Gen
open Idealize.ShloMosaic
open Idealize.ShloMosaic.TcCoe

/-! ## One fold -/

/-- A fold adds the attention of the chunk's four heads, multiplied with the lower half of the weight block. -/
theorem fold_at (M : IVec S1x128x128 1) (R : IVec S1x128x1 1) (x : Vec Ideal S1x128x512 .bf16) (acc : FVec Ideal S128x512 .f32)
    (w : Vec Ideal S1x512x512 .bf16) (k v : Vec Ideal S1x1x4x128x64 .bf16) (i : Fin 128) (n : Fin 512)
    (hR : R (ix3 0 i 0) = keepOf fun j => M (ix3 0 i j)) :
    fold M R (k0_pay14 x) acc w k v (ix2 i n)
      = acc (ix2 i n) + ∑ l : Fin 256, attend (fun j => M (ix3 0 i j))
          (fun j => ∑ d : Fin 64, (∑ t : Fin 512, x (ix3 0 i t) * w (ix3 0 (⟨l.val / 64 * 64 + d.val, by omega⟩ : Fin 512) t)) * k (ix5 0 0 (⟨l.val / 64, by omega⟩ : Fin 4) j d))
          (fun j => v (ix5 0 0 (⟨l.val / 64, by omega⟩ : Fin 4) j (⟨l.val % 64, by omega⟩ : Fin 64)))
          * w (ix3 0 (⟨256 + l.val, by omega⟩ : Fin 512) n) := by
  pointwise [fold, k0_pay31, k0_pay20, k0_pay32, k0_pay19, k0_pay18, k0_pay14, attend, weight, expo, masked, hR]

/-! ## What is loaded -/

/-- Rows 0–255 of a weight block are the columns of `Wq`, scaled; -/
theorem block_wq (W : Vec Ideal S512x256 .bf16) (Wo : Vec Ideal S256x512 .bf16) (p : Dev nD) (r : Fin 256) (t : Fin 512) :
    blockAt W Wo (ix3 p (⟨r.val, by omega⟩ : Fin 512) t) = W (ix2 t r) * Ideal.ofBits .bf16 0x3E00#16 := by
  refine (dif_pos r.isLt : blockAt W Wo (ix3 p (⟨r.val, by omega⟩ : Fin 512) t) = k0_pay1 (F := Ideal) W (ix3 0 r t)).trans ?_
  pointwise [k0_pay1]

/-- rows 256–511 are the rows of `Wo`. -/
theorem block_wo (W : Vec Ideal S512x256 .bf16) (Wo : Vec Ideal S256x512 .bf16) (p : Dev nD) (r : Fin 256) (n : Fin 512) :
    blockAt W Wo (ix3 p (⟨256 + r.val, by omega⟩ : Fin 512) n) = Wo (ix2 r n) := by
  have e : (⟨256 + r.val - 256, by omega⟩ : Fin 256) = r := Fin.ext (by show 256 + r.val - 256 = r.val; omega)
  refine (dif_neg (show ¬ 256 + r.val < 256 by omega)).trans ?_
  refine (congrArg (fun q : Fin 256 => k0_pay2 (F := Ideal) Wo (ix3 0 q n)) e).trans ?_
  pointwise [k0_pay2]

/-- Heads first, the heads are those of the array. -/
theorem heads_first (W : Vec Ideal S2x128x16x64 .bf16) (b : Fin 2) (h : Fin 16) (j : Fin 128) (d : Fin 64) :
    k0_pay3 (F := Ideal) (kvrow W b) (ix5 0 0 h j d) = W (ix4 b j h d) := by
  pointwise [k0_pay3, kvrow]

variable (m : (ℓ : Loc nD τ sig) → Buf (Elt Ideal) ℓ) (ρ : Dev nD → PrngReg)

/-- The result is the running sum after the four chunks. -/
theorem out_acc (c : Dev nD) (b : Fin 2) (i : Fin 128) (n : Fin 512) : outAt m ρ c (ix3 b i n) = accAt m ρ c b (ix2 i n) := by
  show k0_pay51 (F := Ideal) (accAt m ρ c b) (ix3 0 i n) = _
  generalize accAt m ρ c b = A
  pointwise [k0_pay51]

/-- The running sum starts at zero. -/
theorem start_at (i : Fin 128) (n : Fin 512) : k0_pay16 (F := Ideal) (ix2 i n) = (0 : EReal) := by
  pointwise [k0_pay16]

end Cert.Exchange

end
-- ==== Proof.RefValue.lean ====
/-
# The reference's result, element by element

The reference's term is named in parts, and each part is read at an element: the integer mask by its finitely many block
numbers, the rest as sums, maxima and exponentials of extended reals.
-/
module

public import proofs.«01_k».proof.Proof.Attention
public import proofs.«01_k».proof.Proof.Gen.ReferenceIdeal
public import proofs.«01_k».proof.Proof.Gen.ReferenceIdeal.Run
public import Idealize.ShloMosaic.Lib.Pointwise

@[expose] public section

noncomputable section

namespace Cert.Exchange.Ref

open Cert.ReferenceIdeal Cert.ReferenceIdeal.Gen
open Idealize.ShloMosaic
open Idealize.ShloMosaic.TcCoe

variable {F : FTy → Type} [FloatOps F]

/-! ## The reference's term, in parts -/

/-- The number 64 and, as the printed remainder has it, 4. -/
abbrev w64 : IVec S_ 32 := id (constantI S_ 32 64#32)
abbrev w4 : IVec S_ 32 := select (cmpi .eq (id (constantI S_ 32 4#32)) (constantI S_ 32 0#32)) (constantI S_ 32 1#32) (id (constantI S_ 32 4#32))

/-- The block of each query row, -/
def qb : IVec S512 32 :=
  select (andi (cmpi .ne (signi (iotaInDim S512 32 0)) (broadcastInDim S512 ![] bcast_S_S512 (signi w64)))
      (cmpi .ne (Host.remsi (iotaInDim S512 32 0) (broadcastInDim S512 ![] bcast_S_S512 w64)) (broadcastInDim S512 ![] bcast_S_S512 (constantI S_ 32 0#32))))
    (subi (Host.divsi (iotaInDim S512 32 0) (broadcastInDim S512 ![] bcast_S_S512 w64)) (broadcastInDim S512 ![] bcast_S_S512 (constantI S_ 32 1#32)))
    (Host.divsi (iotaInDim S512 32 0) (broadcastInDim S512 ![] bcast_S_S512 w64))

/-- of each key row, -/
def kb : IVec S128 32 :=
  select (andi (cmpi .ne (signi (iotaInDim S128 32 0)) (broadcastInDim S128 ![] bcast_S_S128 (signi w64)))
      (cmpi .ne (Host.remsi (iotaInDim S128 32 0) (broadcastInDim S128 ![] bcast_S_S128 w64)) (broadcastInDim S128 ![] bcast_S_S128 (constantI S_ 32 0#32))))
    (subi (Host.divsi (iotaInDim S128 32 0) (broadcastInDim S128 ![] bcast_S_S128 w64)) (broadcastInDim S128 ![] bcast_S_S128 (constantI S_ 32 1#32)))
    (Host.divsi (iotaInDim S128 32 0) (broadcastInDim S128 ![] bcast_S_S128 w64))

/-- both as a column and a row, and their remainders by four. -/
def qbc : IVec S512x1 32 := broadcastInDim S512x1 ![0] bcast_S512_S512x1_0 qb
def kbr : IVec S1x128 32 := broadcastInDim S1x128 ![1] bcast_S128_S1x128_1 kb
def q4 : IVec S512x1 32 :=
  have r : IVec S512x1 32 := Host.remsi qbc (broadcastInDim S512x1 ![] bcast_S_S512x1 w4)
  select (andi (cmpi .ne (cmpi .slt r (broadcastInDim S512x1 ![] bcast_S_S512x1 (constantI S_ 32 0#32)))
        (broadcastInDim S512x1 ![] bcast_S_S512x1 (cmpi .slt w4 (constantI S_ 32 0#32))))
      (cmpi .ne r (broadcastInDim S512x1 ![] bcast_S_S512x1 (constantI S_ 32 0#32))))
    (addi r (broadcastInDim S512x1 ![] bcast_S_S512x1 w4)) r
def k4 : IVec S1x128 32 :=
  have r : IVec S1x128 32 := Host.remsi kbr (broadcastInDim S1x128 ![] bcast_S_S1x128 w4)
  select (andi (cmpi .ne (cmpi .slt r (broadcastInDim S1x128 ![] bcast_S_S1x128 (constantI S_ 32 0#32)))
        (broadcastInDim S1x128 ![] bcast_S_S1x128 (cmpi .slt w4 (constantI S_ 32 0#32))))
      (cmpi .ne r (broadcastInDim S1x128 ![] bcast_S_S1x128 (constantI S_ 32 0#32))))
    (addi r (broadcastInDim S1x128 ![] bcast_S_S1x128 w4)) r

/-- The mask, and the rows that it does not empty. -/
def mask : IVec S512x128 1 :=
  ori (cmpi .eq (broadcastInDim S512x128 ![0, 1] bcast_S512x1_S512x128_0_1 qbc) (broadcastInDim S512x128 ![0, 1] bcast_S1x128_S512x128_0_1 kbr))
    (cmpi .eq (broadcastInDim S512x128 ![0, 1] bcast_S1x128_S512x128_0_1 k4) (broadcastInDim S512x128 ![0, 1] bcast_S512x1_S512x128_0_1 q4))
def keep : IVec S512 1 := Host.reduce IntOp.ori mask (constantI S_ 1 0#1) reducesTo_S512x128_S512_d1 h_S_

/-- The masked scores, -/
def scores (M : IVec S512x128 1) (x : FVec F S2x512x512 .bf16) (wq : FVec F S512x1024 .bf16) (k : FVec F S2x128x16x64 .bf16) : FVec F S2x16x512x128 .f32 :=
  select (broadcastInDim S2x16x512x128 ![0, 1, 2, 3] bcast_S1x1x512x128_S2x16x512x128_0_1_2_3 (broadcastInDim S1x1x512x128 ![2, 3] bcast_S512x128_S1x1x512x128_2_3 M))
    (mulf (extf .f32 (truncf .bf16 (Host.dotGeneral dot_S2x512x16x64_S2x128x16x64_S2x16x512x128_3_3_1_1_02_02 none
        (shapeCast S2x512x16x64 (truncf .bf16 (Host.dotGeneral dot_S2x512x512_S512x1024_S2x512x1024_2_0_01_1_n_n none x wq) bitsLt_bf16_f32) shapeCasts_S2x512x1024_S2x512x16x64) k)
        bitsLt_bf16_f32) bitsLt_bf16_f32)
      (broadcastInDim S2x16x512x128 ![] bcast_S_S2x16x512x128 (constant S_ .f32 0x3E000000#32)))
    (broadcastInDim S2x16x512x128 ![] bcast_S_S2x16x512x128 (id (constant S_ .f32 0xCE6E6B28#32)))

/-- their exponentials with each row's largest score taken off, -/
def expo (s : FVec F S2x16x512x128 .f32) : FVec F S2x16x512x128 .f32 :=
  Host.exp (subf s (broadcastInDim S2x16x512x128 ![0, 1, 2, 3] bcast_S2x16x512x1_S2x16x512x128_0_1_2_3
    (broadcastInDim S2x16x512x1 ![0, 1, 2] bcast_S2x16x512_S2x16x512x1_0_1_2
      (Host.reduce FloatOps.maximumf s (constant S_ .f32 0xFF800000#32) reducesTo_S2x16x512x128_S2x16x512_d3 h_S_))))

/-- the weights, -/
def weights (R : IVec S512 1) (e : FVec F S2x16x512x128 .f32) : FVec F S2x16x512x128 .f32 :=
  select (broadcastInDim S2x16x512x128 ![0, 1, 2, 3] bcast_S1x1x512x1_S2x16x512x128_0_1_2_3 (broadcastInDim S1x1x512x1 ![2] bcast_S512_S1x1x512x1_2 R))
    (Host.divf e (broadcastInDim S2x16x512x128 ![0, 1, 2, 3] bcast_S2x16x512x1_S2x16x512x128_0_1_2_3
      (select (broadcastInDim S2x16x512x1 ![0, 1, 2, 3] bcast_S1x1x512x1_S2x16x512x1_0_1_2_3 (broadcastInDim S1x1x512x1 ![2] bcast_S512_S1x1x512x1_2 R))
        (broadcastInDim S2x16x512x1 ![0, 1, 2] bcast_S2x16x512_S2x16x512x1_0_1_2 (Host.reduceAdd e (constant S_ .f32 0x00000000#32) reducesTo_S2x16x512x128_S2x16x512_d3 h_S_))
        (broadcastInDim S2x16x512x1 ![] bcast_S_S2x16x512x1 (id (constant S_ .f32 0x3F800000#32))))))
    (broadcastInDim S2x16x512x128 ![] bcast_S_S2x16x512x128 (id (constant S_ .f32 0x00000000#32)))

/-- and the result. -/
def out (w : FVec F S2x16x512x128 .f32) (v : FVec F S2x128x16x64 .bf16) (wo : FVec F S1024x512 .bf16) : FVec F S2x512x512 .f32 :=
  Host.dotGeneral dot_S2x512x1024_S1024x512_S2x512x512_2_0_01_1_n_n none
    (shapeCast S2x512x1024 (transpose S2x512x16x64 [0, 3, 1, 2]
      (Host.dotGeneral dot_S2x128x16x64_S2x16x512x128_S2x16x64x512_1_3_3_2_02_01 none v w)
      transposes_S2x16x64x512_S2x512x16x64_0_3_1_2) shapeCasts_S2x512x16x64_S2x512x1024) wo

/-- The reference's result is made of these parts. -/
theorem result_parts (m : (ℓ : Loc nD τ sig) → Buf (Elt F) ℓ) (c : Dev nD) :
    Cert.ReferenceIdeal.Value.res_main_v42 m c
      = out (weights keep (expo (scores mask (m ((c.tc : Thread nD τ).loc main_arg0)) (m ((c.tc : Thread nD τ).loc main_arg1)) (m ((c.tc : Thread nD τ).loc main_arg2)))))
          (m ((c.tc : Thread nD τ).loc main_arg3)) (m ((c.tc : Thread nD τ).loc main_arg4)) := rfl

/-! ## The mask at an element -/

theorem qb_at (i : Fin 512) : qb (ix1 i) = BitVec.ofNat 32 (i.val / 64) := by
  pointwise [qb, id_eq, w64]
  revert i
  decide +kernel

theorem kb_at (j : Fin 128) : kb (ix1 j) = BitVec.ofNat 32 (j.val / 64) := by
  pointwise [kb, id_eq, w64]
  revert j
  decide +kernel

/-- A block number's remainder by four as the reference finds it. -/
theorem rem4 (n : Fin 8) :
    (have r := IntOp.remsi .host (BitVec.ofNat 32 n.val) (Scalar.select (IntOp.cmpi .eq 4#32 0#32) 1#32 4#32)
     Scalar.select (IntOp.andi (IntOp.cmpi .ne (IntOp.cmpi .slt r 0#32) (IntOp.cmpi .slt (Scalar.select (IntOp.cmpi .eq 4#32 0#32) 1#32 4#32) 0#32))
        (IntOp.cmpi .ne r 0#32)) (IntOp.addi r (Scalar.select (IntOp.cmpi .eq 4#32 0#32) 1#32 4#32)) r) = BitVec.ofNat 32 (n.val % 4) := by
  revert n
  decide +kernel

theorem q4_at (i : Fin 512) : q4 (ix2 i 0) = BitVec.ofNat 32 (i.val / 64 % 4) := by
  refine Eq.trans ?_ (rem4 ⟨i.val / 64, by omega⟩)
  pointwise [q4, qbc, qb_at, id_eq, w4]

theorem k4_at (j : Fin 128) : k4 (ix2 0 j) = BitVec.ofNat 32 (j.val / 64 % 4) := by
  refine Eq.trans ?_ (rem4 ⟨j.val / 64, by omega⟩)
  pointwise [k4, kbr, kb_at, id_eq, w4]

/-- The printed test of two block numbers is the mask's. -/
theorem mask_word (a : Fin 8) (b : Fin 8) : IntOp.ori (IntOp.cmpi .eq (BitVec.ofNat 32 a.val) (BitVec.ofNat 32 b.val))
    (IntOp.cmpi .eq (BitVec.ofNat 32 (b.val % 4)) (BitVec.ofNat 32 (a.val % 4))) = if a.val = b.val ∨ b.val % 4 = a.val % 4 then 1#1 else 0#1 := by
  revert a b
  decide +kernel

/-- The reference's mask is `maskN`, -/
theorem mask_at (i : Fin 512) (j : Fin 128) : mask (ix2 i j) = maskN i.val j.val := by
  refine Eq.trans ?_ (mask_word ⟨i.val / 64, by omega⟩ ⟨j.val / 64, by omega⟩)
  pointwise [mask, qbc, kbr, qb_at, kb_at, q4_at, k4_at]

/-- and its kept rows are `keepOf` of the mask's rows. -/
theorem keep_at (i : Fin 512) : keep (ix1 i) = keepOf fun j => maskN i.val j.val := by
  pointwise [keep, mask_at, keepOf]

/-! ## The result at an element -/

theorem scores_at (x : FVec Ideal S2x512x512 .bf16) (wq : FVec Ideal S512x1024 .bf16) (k : FVec Ideal S2x128x16x64 .bf16)
    (b : Fin 2) (h : Fin 16) (i : Fin 512) (j : Fin 128) :
    scores mask x wq k (ix4 b h i j) = masked (fun j => maskN i.val j.val)
      (fun j => (∑ d : Fin 64, (∑ t : Fin 512, x (ix3 b i t) * wq (ix2 t (⟨h.val * 64 + d.val, by omega⟩ : Fin 1024))) * k (ix4 b j h d))
        * Ideal.ofBits .f32 0x3E000000#32) j := by
  pointwise [scores, masked, mask_at, id_eq]

theorem weights_at (s : FVec Ideal S2x16x512x128 .f32) (b : Fin 2) (h : Fin 16) (i : Fin 512) (j : Fin 128) (M : Fin 128 → BitVec 1)
    (z : Fin 128 → EReal) (hM : keep (ix1 i) = keepOf M) (hs : ∀ j, s (ix4 b h i j) = masked M z j) :
    weights keep (Ref.expo s) (ix4 b h i j) = weight M z j := by
  pointwise [weights, Ref.expo, weight, Exchange.expo, hM, hs, id_eq]

/-- What column `L` of the heads adds to row `i` and column `n` of the result: its masked attention times its row of `Wo`. -/
def term (x : FVec Ideal S2x512x512 .bf16) (wq : FVec Ideal S512x1024 .bf16) (k v : FVec Ideal S2x128x16x64 .bf16) (wo : FVec Ideal S1024x512 .bf16)
    (b : Fin 2) (i n : Fin 512) (L : Fin 1024) : EReal :=
  attend (fun j => maskN i.val j.val)
    (fun j => (∑ d : Fin 64, (∑ t : Fin 512, x (ix3 b i t) * wq (ix2 t (⟨L.val / 64 * 64 + d.val, by omega⟩ : Fin 1024))) * k (ix4 b j (⟨L.val / 64, by omega⟩ : Fin 16) d))
      * Ideal.ofBits .f32 0x3E000000#32)
    (fun j => v (ix4 b j (⟨L.val / 64, by omega⟩ : Fin 16) (⟨L.val % 64, by omega⟩ : Fin 64))) * wo (ix2 L n)

/-- The reference's result: each head's masked attention, the heads' columns multiplied with `Wo`. -/
theorem out_at (x : FVec Ideal S2x512x512 .bf16) (wq : FVec Ideal S512x1024 .bf16) (k v : FVec Ideal S2x128x16x64 .bf16) (wo : FVec Ideal S1024x512 .bf16)
    (b : Fin 2) (i n : Fin 512) :
    out (weights keep (Ref.expo (scores mask x wq k))) v wo (ix3 b i n) = ∑ L : Fin 1024, term x wq k v wo b i n L := by
  have hw := fun (h : Fin 16) (j : Fin 128) => weights_at (scores mask x wq k) b h i j _ _ (keep_at i) (fun j => scores_at x wq k b h i j)
  generalize weights keep (Ref.expo (scores mask x wq k)) = w at hw ⊢
  pointwise [out, term, attend, hw]
  exact Finset.sum_congr rfl fun L _ => congrArg (· * _) (Finset.sum_congr rfl fun j _ => mul_comm _ _)

end Cert.Exchange.Ref

end
-- ==== Proof.Arrays.lean ====
/-
# The arrays and their staging buffers

Every window is its whole array, so a staging buffer holds the argument itself and the result array ends at what the body stored.
-/
module

public import proofs.«01_k».proof.Proof.Launch

@[expose] public section

noncomputable section

namespace Cert.Exchange

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg) (c : Dev nD)

omit [FloatOps F] in
theorem xstg_eq : xstg m ρ c = m ((c : Thread nD τ).loc main_arg0) :=
  Memref.read_access_unit_zero (Elt F) main_arg0 (by funext a; fin_cases a <;> rfl) (fun a => by fin_cases a <;> decide) _
omit [FloatOps F] in
theorem wqstg_eq : wqstg m ρ c = m ((c : Thread nD τ).loc main_arg1) :=
  Memref.read_access_unit_zero (Elt F) main_arg1 (by funext a; fin_cases a <;> rfl) (fun a => by fin_cases a <;> decide) _
omit [FloatOps F] in
theorem kstg_eq : kstg m ρ c = m ((c : Thread nD τ).loc main_arg2) :=
  Memref.read_access_unit_zero (Elt F) main_arg2 (by funext a; fin_cases a <;> rfl) (fun a => by fin_cases a <;> decide) _
omit [FloatOps F] in
theorem vstg_eq : vstg m ρ c = m ((c : Thread nD τ).loc main_arg3) :=
  Memref.read_access_unit_zero (Elt F) main_arg3 (by funext a; fin_cases a <;> rfl) (fun a => by fin_cases a <;> decide) _
omit [FloatOps F] in
theorem wostg_eq : wostg m ρ c = m ((c : Thread nD τ).loc main_arg4) :=
  Memref.read_access_unit_zero (Elt F) main_arg4 (by funext a; fin_cases a <;> rfl) (fun a => by fin_cases a <;> decide) _

/-- The result array ends at what the body stored. -/
theorem finalA_out : finalA m ρ c (5 : Fin 6) = outAt m ρ c := by
  have h : (win0_5.blk (0 : Fin 1)).view.read (Elt F) (finalA m ρ c (5 : Fin 6)) = outAt m ρ c := by
    unfold finalA
    rw [show cfg0.N = ((0 : Fin 1) : Fin cfg0.N).val + 1 from rfl, (dats m ρ 0 c).arrAt_succ (5 : Fin 6) (0 : Fin 1),
      if_pos (flush0_5 (0 : Fin 1))]
    exact View.read_write_univ _ _
  exact (Memref.read_access_unit_zero (Elt F) main_v1 (by funext a; fin_cases a <;> rfl) (fun a => by fin_cases a <;> decide) _).symm.trans h

end Cert.Exchange

end
-- ==== Proof.Equation.lean ====
/-
# The two results are one

With the whole arrays cut among the four devices, each device's result is its part of the reference's.
-/
module

public import proofs.«01_k».proof.Proof.KernelValue
public import proofs.«01_k».proof.Proof.RefValue
public import proofs.«01_k».proof.Proof.Arrays
public import proofs.«01_k».proof.Proof.Frames

@[expose] public section

noncomputable section

namespace Cert.Exchange

open Cert.KernelIdeal Cert.KernelIdeal.Gen
open Idealize.ShloMosaic Idealize.SL.Sem
open Idealize.ShloMosaic.TcCoe

/-- A device's number is under 4. -/
theorem dev_lt (c : Dev nD) : c.val < 4 := c.isLt

/-! ## Parts of whole arrays, by coordinates -/

/-- A device's rows of the queries (and of the result), -/
theorem block_rows3 (c : Fin 4) (v : (⟨3, ![2, 512, 512]⟩ : Shape).Idx → EReal) (b : Fin 2) (i : Fin 128) (t : Fin 512) :
    Layout.block ⟨3, ![2, 128, 512]⟩ ⟨3, ![2, 512, 512]⟩ 1 4 c v (by decide) (ix3 b i t) = v (ix3 b (⟨128 * c.val + i.val, by omega⟩ : Fin 512) t) := by
  refine congrArg v (funext fun a => Fin.ext ?_)
  fin_cases a
  · rfl
  · show c.val * 128 + i.val = 128 * c.val + i.val; omega
  · rfl

/-- its columns of `Wq`, -/
theorem block_cols (c : Fin 4) (v : (⟨2, ![512, 1024]⟩ : Shape).Idx → EReal) (t : Fin 512) (r : Fin 256) :
    Layout.block ⟨2, ![512, 256]⟩ ⟨2, ![512, 1024]⟩ 1 4 c v (by decide) (ix2 t r) = v (ix2 t (⟨256 * c.val + r.val, by omega⟩ : Fin 1024)) := by
  refine congrArg v (funext fun a => Fin.ext ?_)
  fin_cases a
  · rfl
  · show c.val * 256 + r.val = 256 * c.val + r.val; omega

/-- and its rows of `Wo`. -/
theorem block_rows (c : Fin 4) (v : (⟨2, ![1024, 512]⟩ : Shape).Idx → EReal) (r : Fin 256) (n : Fin 512) :
    Layout.block ⟨2, ![256, 512]⟩ ⟨2, ![1024, 512]⟩ 0 4 c v (by decide) (ix2 r n) = v (ix2 (⟨256 * c.val + r.val, by omega⟩ : Fin 1024) n) := by
  refine congrArg v (funext fun a => Fin.ext ?_)
  fin_cases a
  · show c.val * 256 + r.val = 256 * c.val + r.val; omega
  · rfl

/-! ## The devices' results -/

variable (m : (ℓ : Loc nD τ sig) → Buf (Elt Ideal) ℓ) (ρ : Dev nD → PrngReg)
  (X : FVec Ideal Cert.ReferenceIdeal.S2x512x512 .bf16) (Wq : FVec Ideal Cert.ReferenceIdeal.S512x1024 .bf16)
  (K V : FVec Ideal S2x128x16x64 .bf16) (Wo : FVec Ideal Cert.ReferenceIdeal.S1024x512 .bf16)

/-- The devices' staging buffers hold their parts of the whole arrays. -/
structure Cut : Prop where
  x : ∀ (c : Dev nD) (b : Fin 2) (i : Fin 128) (t : Fin 512),
    (xstg m ρ c : Vec Ideal S2x128x512 .bf16) (ix3 b i t) = X (ix3 b (⟨128 * c.val + i.val, by have := dev_lt c; omega⟩ : Fin 512) t)
  wq : ∀ (c : Dev nD) (t : Fin 512) (r : Fin 256),
    (wqstg m ρ c : Vec Ideal S512x256 .bf16) (ix2 t r) = Wq (ix2 t (⟨256 * c.val + r.val, by have := dev_lt c; omega⟩ : Fin 1024))
  k : ∀ c : Dev nD, kstg m ρ c = K
  v : ∀ c : Dev nD, vstg m ρ c = V
  wo : ∀ (c : Dev nD) (r : Fin 256) (n : Fin 512),
    (wostg m ρ c : Vec Ideal S256x512 .bf16) (ix2 r n) = Wo (ix2 (⟨256 * c.val + r.val, by have := dev_lt c; omega⟩ : Fin 1024) n)

variable {m ρ X Wq K V Wo}

/-- A step at chunk `p` adds the terms of the chunk's 256 columns. -/
theorem step_at (h : Cut m ρ X Wq K V Wo) (c p : Dev nD) (b : Fin 2) (acc : FVec Ideal S128x512 .f32) (i : Fin 128) (n : Fin 512) :
    step m ρ c b p acc (ix2 i n) = acc (ix2 i n) + ∑ l : Fin 256,
      Ref.term X Wq K V Wo b (⟨128 * c.val + i.val, by have := dev_lt c; omega⟩ : Fin 512) n (⟨256 * p.val + l.val, by have := dev_lt p; omega⟩ : Fin 1024) := by
  have hp := dev_lt p
  unfold step
  rw [fold_at _ _ _ _ _ _ _ i n ((keepAt_at c i).trans (congrArg keepOf (funext fun j => (maskAt_at c i j).symm)))]
  refine congrArg (acc (ix2 i n) + ·) (Finset.sum_congr rfl fun l _ => ?_)
  have hx : ∀ t, xrow (xstg m ρ c) b (ix3 0 i t) = X (ix3 b (⟨128 * c.val + i.val, by have := dev_lt c; omega⟩ : Fin 512) t) := fun t => h.x c b i t
  have hq : ∀ (d : Fin 64) (t : Fin 512), slab m ρ p (ix3 0 (⟨l.val / 64 * 64 + d.val, by omega⟩ : Fin 512) t)
      = Wq (ix2 t (⟨(256 * p.val + l.val) / 64 * 64 + d.val, by omega⟩ : Fin 1024)) * Ideal.ofBits .bf16 0x3E00#16 := fun d t => by
    refine (block_wq (wqstg m ρ p) (wostg m ρ p) p ⟨l.val / 64 * 64 + d.val, by omega⟩ t).trans ?_
    rw [h.wq]
    exact congrArg (fun q : Fin 1024 => Wq (ix2 t q) * _) (Fin.ext (by show 256 * p.val + (l.val / 64 * 64 + d.val) = (256 * p.val + l.val) / 64 * 64 + d.val; omega))
  have ho : slab m ρ p (ix3 0 (⟨256 + l.val, by omega⟩ : Fin 512) n) = Wo (ix2 (⟨256 * p.val + l.val, by omega⟩ : Fin 1024) n) :=
    (block_wo (wqstg m ρ p) (wostg m ρ p) p l n).trans (h.wo p l n)
  have e4 : (⟨4 * p.val + l.val / 64, by omega⟩ : Fin 16) = ⟨(256 * p.val + l.val) / 64, by omega⟩ := Fin.ext (by show 4 * p.val + l.val / 64 = (256 * p.val + l.val) / 64; omega)
  have hk : ∀ (j : Fin 128) (d : Fin 64), heads m ρ c b 0 p (ix5 0 0 (⟨l.val / 64, by omega⟩ : Fin 4) j d)
      = K (ix4 b j (⟨(256 * p.val + l.val) / 64, by omega⟩ : Fin 16) d) := fun j d => by
    refine (kvtAt_k m ρ c (ix5 b 0 (⟨4 * p.val + l.val / 64, by omega⟩ : Fin 16) j d) rfl).trans ?_
    refine (heads_first (kstg m ρ c) b (⟨4 * p.val + l.val / 64, by omega⟩ : Fin 16) j d).trans ?_
    rw [h.k, e4]
  have hv : ∀ (j : Fin 128) (d : Fin 64), heads m ρ c b 1 p (ix5 0 0 (⟨l.val / 64, by omega⟩ : Fin 4) j d)
      = V (ix4 b j (⟨(256 * p.val + l.val) / 64, by omega⟩ : Fin 16) d) := fun j d => by
    refine (kvtAt_v m ρ c (ix5 b 1 (⟨4 * p.val + l.val / 64, by omega⟩ : Fin 16) j d) rfl).trans ?_
    refine (heads_first (vstg m ρ c) b (⟨4 * p.val + l.val / 64, by omega⟩ : Fin 16) j d).trans ?_
    rw [h.v, e4]
  have e64 : (⟨l.val % 64, by omega⟩ : Fin 64) = ⟨(256 * p.val + l.val) % 64, by omega⟩ := Fin.ext (by show l.val % 64 = (256 * p.val + l.val) % 64; omega)
  unfold Ref.term
  rw [ho]
  refine congrArg (· * _) ?_
  have hs : (fun j : Fin 128 => ∑ d : Fin 64, (∑ t : Fin 512, xrow (xstg m ρ c) b (ix3 0 i t) * slab m ρ p (ix3 0 (⟨l.val / 64 * 64 + d.val, by omega⟩ : Fin 512) t))
        * heads m ρ c b 0 p (ix5 0 0 (⟨l.val / 64, by omega⟩ : Fin 4) j d))
      = fun j => (∑ d : Fin 64, (∑ t : Fin 512, X (ix3 b (⟨128 * c.val + i.val, by have := dev_lt c; omega⟩ : Fin 512) t)
          * Wq (ix2 t (⟨(256 * p.val + l.val) / 64 * 64 + d.val, by omega⟩ : Fin 1024))) * K (ix4 b j (⟨(256 * p.val + l.val) / 64, by omega⟩ : Fin 16) d))
        * Ideal.ofBits .f32 0x3E000000#32 := funext fun j => by
    simp only [hx, hq, hk]
    rw [eighth_bf16, eighth_f32]
    exact score_scaled (fun t => X (ix3 b _ t)) (fun t d => Wq (ix2 t _)) (fun d => K (ix4 b j _ d)) eighth_nonneg (EReal.coe_ne_top _)
  exact congr (congr (congrArg attend (funext fun j => maskAt_at c i j)) hs) (funext fun j => (hv j _).trans (by rw [e64]))

/-- The four chunks in a device's order sum to the sum over all. -/
theorem sum_order (c : Dev nD) (f : Fin 4 → EReal) : (((0 + f c) + f (pr c 2)) + f (pr c 0)) + f (pr c 1) = ∑ p, f p := by
  have hc : ∀ c : Dev nD, c = 0 ∨ c = 1 ∨ c = 2 ∨ c = 3 := by decide
  rw [Fin.sum_univ_four, zero_add]
  rcases hc c with e | e | e | e <;> subst e
  · show f 0 + f 3 + f 1 + f 2 = _; ac_rfl
  · show f 1 + f 0 + f 2 + f 3 = _; ac_rfl
  · show f 2 + f 1 + f 3 + f 0 = _; ac_rfl
  · show f 3 + f 2 + f 0 + f 1 = _; ac_rfl

/-- A device's result is its rows of the reference's. -/
theorem out_eq (h : Cut m ρ X Wq K V Wo) (c : Dev nD) (b : Fin 2) (i : Fin 128) (n : Fin 512) :
    outAt m ρ c (ix3 b i n) = Ref.out (Ref.weights Ref.keep (Ref.expo (Ref.scores Ref.mask X Wq K))) V Wo
      (ix3 b (⟨128 * c.val + i.val, by have := dev_lt c; omega⟩ : Fin 512) n) := by
  rw [out_acc, Ref.out_at, sum_chunks]
  unfold accAt
  rw [step_at h, step_at h, step_at h, step_at h, start_at]
  exact sum_order c fun p => ∑ l : Fin 256, Ref.term X Wq K V Wo b _ n (⟨256 * p.val + l.val, by omega⟩ : Fin 1024)

/-! ## The claim -/

/-- With every device's argument its part of the reference's, both run and every device's result is its part of the reference's. -/
theorem same_result : Cert.algebraic_KernelIdeal_ReferenceIdeal := fun m ρ m' ρ' _ hargs => by
  have h : Cut m ρ (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c b i t => (congrFun ((xstg_eq m ρ c).trans (hargs c).1) (ix3 b i t)).trans (block_rows3 c _ b i t)
      wq := fun c t r => (congrFun ((wqstg_eq m ρ c).trans (hargs c).2.1) (ix2 t r)).trans (block_cols c _ t r)
      k := fun c => (kstg_eq m ρ c).trans (hargs c).2.2.1
      v := fun c => (vstg_eq m ρ c).trans (hargs c).2.2.2.1
      wo := fun c r n => (congrFun ((wostg_eq m ρ c).trans (hargs c).2.2.2.2) (ix2 r n)).trans (block_rows c _ r n) }
  refine ⟨Cert.ReferenceIdeal.Value.res_main_v42 m' 0, ?_, ?_⟩
  · refine (θ_run defs _ _).mono (fun r hr c => ⟨?_, args_kept m ρ r hr.1 c⟩) (run_main m ρ)
    refine (hr.1 c 5).trans ((finalA_out m ρ c).trans (funext fun (i : S2x128x512.Idx) => ?_))
    rw [Ref.result_parts, eq_ix3 i]
    exact (out_eq h c (i 0) (i 1) (i 2)).trans (block_rows3 c _ (i 0) (i 1) (i 2)).symm
  · exact (θ_run Cert.ReferenceIdeal.defs _ _).mono (fun _ hr => hr 0) (Cert.ReferenceIdeal.Value.run (F := Ideal) m' ρ')

end Cert.Exchange

end
-- ==== Proof.lean ====
/-
# The claim, assembled

Each conjunct is proved in a module of Proof/.
-/
module

public import proofs.«01_k».proof.Defs
public import proofs.«01_k».proof.Proof.Frames
public import proofs.«01_k».proof.Proof.Equation

@[expose] public section

noncomputable section

namespace Cert.Proof

open Idealize.ShloMosaic Idealize.SL.Sem

/-- Every program's frame holds, the idealization changes no operation, and the kernel's result is the reference's. -/
theorem claim : Cert.Claim := ⟨Cert.Kernel.Gen.facts, Cert.KernelIdeal.Gen.facts, Cert.ReferenceIdeal.Gen.facts,
  Cert.Exchange.frame_kernel, Cert.Exchange.frame_kernelIdeal, Cert.Exchange.frame_referenceIdeal, trivial, Cert.Exchange.same_result⟩

end Cert.Proof

end
